-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v63_0) = v1 c
          ∧ r.2.mem ((c.tc : Thread Cert.ReferenceIdeal.nD Cert.ReferenceIdeal.τ).loc Cert.ReferenceIdeal.main_v63_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x8192 : Shape := ⟨3, ![4, 1024, 8192]⟩
abbrev S8192x4096 : Shape := ⟨2, ![8192, 4096]⟩
abbrev S8192x64 : Shape := ⟨2, ![8192, 64]⟩
abbrev S4096x8192 : Shape := ⟨2, ![4096, 8192]⟩
abbrev S4096x1 : Shape := ⟨2, ![4096, 1]⟩
abbrev S64x8192 : Shape := ⟨2, ![64, 8192]⟩
abbrev S64x1 : Shape := ⟨2, ![64, 1]⟩
abbrev S32x8192 : Shape := ⟨2, ![32, 8192]⟩
abbrev S32x128 : Shape := ⟨2, ![32, 128]⟩
abbrev S32 : Shape := ⟨1, ![32]⟩
abbrev S32x1 : Shape := ⟨2, ![32, 1]⟩
abbrev S512x8192 : Shape := ⟨2, ![512, 8192]⟩
abbrev S512x4096 : Shape := ⟨2, ![512, 4096]⟩
abbrev S512x64 : Shape := ⟨2, ![512, 64]⟩
abbrev S512x1 : Shape := ⟨2, ![512, 1]⟩
abbrev S512x512 : Shape := ⟨2, ![512, 512]⟩
abbrev S512x128 : Shape := ⟨2, ![512, 128]⟩
abbrev S128x128 : Shape := ⟨2, ![128, 128]⟩
abbrev S4x1024 : Shape := ⟨2, ![4, 1024]⟩

abbrev nBuf : Space → Nat
  | .hbm => 11
  | .vmem => 20
  | .smem => 0
  | _ => 0

abbrev bufTy : (tb : Table) → Fin (tcTables nBuf tb) → BufTy
  | .hbm, ⟨0, _⟩ => ⟨S4x1024x8192, .bf16⟩
  | .hbm, ⟨1, _⟩ => ⟨S8192x4096, .i8⟩
  | .hbm, ⟨2, _⟩ => ⟨S8192x64, .f32⟩
  | .hbm, ⟨3, _⟩ => ⟨S4096x8192, .bf16⟩
  | .hbm, ⟨4, _⟩ => ⟨S4096x8192, .i8⟩
  | .hbm, ⟨5, _⟩ => ⟨S4096x8192, .bf16⟩
  | .hbm, ⟨6, _⟩ => ⟨S4096x1, .f32⟩
  | .hbm, ⟨7, _⟩ => ⟨S4096x8192, .bf16⟩
  | .hbm, ⟨8, _⟩ => ⟨S4x1024x8192, .bf16⟩
  | .hbm, ⟨9, _⟩ => ⟨S4x1024x8192, .i8⟩
  | .hbm, ⟨10, _⟩ => ⟨S4x1024, .f32⟩
  | .local _ .vmem, ⟨0, _⟩ => ⟨S64x8192, .bf16⟩
  | .local _ .vmem, ⟨1, _⟩ => ⟨S64x8192, .bf16⟩
  | .local _ .vmem, ⟨2, _⟩ => ⟨S64x8192, .i8⟩
  | .local _ .vmem, ⟨3, _⟩ => ⟨S64x8192, .i8⟩
  | .local _ .vmem, ⟨4, _⟩ => ⟨S64x8192, .bf16⟩
  | .local _ .vmem, ⟨5, _⟩ => ⟨S64x8192, .bf16⟩
  | .local _ .vmem, ⟨6, _⟩ => ⟨S64x1, .f32⟩
  | .local _ .vmem, ⟨7, _⟩ => ⟨S64x1, .f32⟩
  | .local _ .vmem, ⟨8, _⟩ => ⟨S32x8192, .f32⟩
  | .local _ .vmem, ⟨9, _⟩ => ⟨S512x8192, .bf16⟩
  | .local _ .vmem, ⟨10, _⟩ => ⟨S512x8192, .bf16⟩
  | .local _ .vmem, ⟨11, _⟩ => ⟨S512x4096, .i8⟩
  | .local _ .vmem, ⟨12, _⟩ => ⟨S512x4096, .i8⟩
  | .local _ .vmem, ⟨13, _⟩ => ⟨S512x64, .f32⟩
  | .local _ .vmem, ⟨14, _⟩ => ⟨S512x64, .f32⟩
  | .local _ .vmem, ⟨15, _⟩ => ⟨S512x1, .f32⟩
  | .local _ .vmem, ⟨16, _⟩ => ⟨S512x1, .f32⟩
  | .local _ .vmem, ⟨17, _⟩ => ⟨S512x512, .bf16⟩
  | .local _ .vmem, ⟨18, _⟩ => ⟨S512x512, .bf16⟩
  | .local _ .vmem, ⟨19, _⟩ => ⟨S512x8192, .bf16⟩
  | _, _ => ⟨S4x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : Index := Scalar.indexCast v1
  let c0 : Index := 0#32
  ![v2.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v6 : Index := Scalar.indexCast v1
  let c128 : Index := 128#32
  ![v6.toNat, 128]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v10 : Index := Scalar.indexCast v1
  let c256 : Index := 256#32
  ![v10.toNat, 256]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v14 : Index := Scalar.indexCast v1
  let c384 : Index := 384#32
  ![v14.toNat, 384]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v18 : Index := Scalar.indexCast v1
  let c512 : Index := 512#32
  ![v18.toNat, 512]
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v22 : Index := Scalar.indexCast v1
  let c640 : Index := 640#32
  ![v22.toNat, 640]
def k0_off7 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v26 : Index := Scalar.indexCast v1
  let c768 : Index := 768#32
  ![v26.toNat, 768]
def k0_off8 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v30 : Index := Scalar.indexCast v1
  let c896 : Index := 896#32
  ![v30.toNat, 896]
def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v82 : Index := Scalar.indexCast v1
  let c1024 : Index := 1024#32
  ![v82.toNat, 1024]
def k0_off10 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v86 : Index := Scalar.indexCast v1
  let c1152 : Index := 1152#32
  ![v86.toNat, 1152]
def k0_off11 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v90 : Index := Scalar.indexCast v1
  let c1280 : Index := 1280#32
  ![v90.toNat, 1280]
def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v94 : Index := Scalar.indexCast v1
  let c1408 : Index := 1408#32
  ![v94.toNat, 1408]
def k0_off13 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v98 : Index := Scalar.indexCast v1
  let c1536 : Index := 1536#32
  ![v98.toNat, 1536]
def k0_off14 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v102 : Index := Scalar.indexCast v1
  let c1664 : Index := 1664#32
  ![v102.toNat, 1664]
def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v106 : Index := Scalar.indexCast v1
  let c1792 : Index := 1792#32
  ![v106.toNat, 1792]
def k0_off16 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v110 : Index := Scalar.indexCast v1
  let c1920 : Index := 1920#32
  ![v110.toNat, 1920]
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v162 : Index := Scalar.indexCast v1
  let c2048 : Index := 2048#32
  ![v162.toNat, 2048]
def k0_off18 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v166 : Index := Scalar.indexCast v1
  let c2176 : Index := 2176#32
  ![v166.toNat, 2176]
def k0_off19 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v170 : Index := Scalar.indexCast v1
  let c2304 : Index := 2304#32
  ![v170.toNat, 2304]
def k0_off20 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v174 : Index := Scalar.indexCast v1
  let c2432 : Index := 2432#32
  ![v174.toNat, 2432]
def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v178 : Index := Scalar.indexCast v1
  let c2560 : Index := 2560#32
  ![v178.toNat, 2560]
def k0_off22 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v182 : Index := Scalar.indexCast v1
  let c2688 : Index := 2688#32
  ![v182.toNat, 2688]
def k0_off23 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v186 : Index := Scalar.indexCast v1
  let c2816 : Index := 2816#32
  ![v186.toNat, 2816]
def k0_off24 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v190 : Index := Scalar.indexCast v1
  let c2944 : Index := 2944#32
  ![v190.toNat, 2944]
def k0_off25 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v242 : Index := Scalar.indexCast v1
  let c3072 : Index := 3072#32
  ![v242.toNat, 3072]
def k0_off26 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v246 : Index := Scalar.indexCast v1
  let c3200 : Index := 3200#32
  ![v246.toNat, 3200]
def k0_off27 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v250 : Index := Scalar.indexCast v1
  let c3328 : Index := 3328#32
  ![v250.toNat, 3328]
def k0_off28 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v254 : Index := Scalar.indexCast v1
  let c3456 : Index := 3456#32
  ![v254.toNat, 3456]
def k0_off29 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v258 : Index := Scalar.indexCast v1
  let c3584 : Index := 3584#32
  ![v258.toNat, 3584]
def k0_off30 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v262 : Index := Scalar.indexCast v1
  let c3712 : Index := 3712#32
  ![v262.toNat, 3712]
def k0_off31 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v266 : Index := Scalar.indexCast v1
  let c3840 : Index := 3840#32
  ![v266.toNat, 3840]
def k0_off32 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v270 : Index := Scalar.indexCast v1
  let c3968 : Index := 3968#32
  ![v270.toNat, 3968]
def k0_off33 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v322 : Index := Scalar.indexCast v1
  let c4096 : Index := 4096#32
  ![v322.toNat, 4096]
def k0_off34 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v326 : Index := Scalar.indexCast v1
  let c4224 : Index := 4224#32
  ![v326.toNat, 4224]
def k0_off35 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v330 : Index := Scalar.indexCast v1
  let c4352 : Index := 4352#32
  ![v330.toNat, 4352]
def k0_off36 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v334 : Index := Scalar.indexCast v1
  let c4480 : Index := 4480#32
  ![v334.toNat, 4480]
def k0_off37 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v338 : Index := Scalar.indexCast v1
  let c4608 : Index := 4608#32
  ![v338.toNat, 4608]
def k0_off38 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v342 : Index := Scalar.indexCast v1
  let c4736 : Index := 4736#32
  ![v342.toNat, 4736]
def k0_off39 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v346 : Index := Scalar.indexCast v1
  let c4864 : Index := 4864#32
  ![v346.toNat, 4864]
def k0_off40 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v350 : Index := Scalar.indexCast v1
  let c4992 : Index := 4992#32
  ![v350.toNat, 4992]
def k0_off41 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v402 : Index := Scalar.indexCast v1
  let c5120 : Index := 5120#32
  ![v402.toNat, 5120]
def k0_off42 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v406 : Index := Scalar.indexCast v1
  let c5248 : Index := 5248#32
  ![v406.toNat, 5248]
def k0_off43 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v410 : Index := Scalar.indexCast v1
  let c5376 : Index := 5376#32
  ![v410.toNat, 5376]
def k0_off44 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v414 : Index := Scalar.indexCast v1
  let c5504 : Index := 5504#32
  ![v414.toNat, 5504]
def k0_off45 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v418 : Index := Scalar.indexCast v1
  let c5632 : Index := 5632#32
  ![v418.toNat, 5632]
def k0_off46 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v422 : Index := Scalar.indexCast v1
  let c5760 : Index := 5760#32
  ![v422.toNat, 5760]
def k0_off47 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v426 : Index := Scalar.indexCast v1
  let c5888 : Index := 5888#32
  ![v426.toNat, 5888]
def k0_off48 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v430 : Index := Scalar.indexCast v1
  let c6016 : Index := 6016#32
  ![v430.toNat, 6016]
def k0_off49 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v482 : Index := Scalar.indexCast v1
  let c6144 : Index := 6144#32
  ![v482.toNat, 6144]
def k0_off50 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v486 : Index := Scalar.indexCast v1
  let c6272 : Index := 6272#32
  ![v486.toNat, 6272]
def k0_off51 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v490 : Index := Scalar.indexCast v1
  let c6400 : Index := 6400#32
  ![v490.toNat, 6400]
def k0_off52 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v494 : Index := Scalar.indexCast v1
  let c6528 : Index := 6528#32
  ![v494.toNat, 6528]
def k0_off53 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v498 : Index := Scalar.indexCast v1
  let c6656 : Index := 6656#32
  ![v498.toNat, 6656]
def k0_off54 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v502 : Index := Scalar.indexCast v1
  let c6784 : Index := 6784#32
  ![v502.toNat, 6784]
def k0_off55 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v506 : Index := Scalar.indexCast v1
  let c6912 : Index := 6912#32
  ![v506.toNat, 6912]
def k0_off56 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v510 : Index := Scalar.indexCast v1
  let c7040 : Index := 7040#32
  ![v510.toNat, 7040]
def k0_off57 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v562 : Index := Scalar.indexCast v1
  let c7168 : Index := 7168#32
  ![v562.toNat, 7168]
def k0_off58 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v566 : Index := Scalar.indexCast v1
  let c7296 : Index := 7296#32
  ![v566.toNat, 7296]
def k0_off59 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v570 : Index := Scalar.indexCast v1
  let c7424 : Index := 7424#32
  ![v570.toNat, 7424]
def k0_off60 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v574 : Index := Scalar.indexCast v1
  let c7552 : Index := 7552#32
  ![v574.toNat, 7552]
def k0_off61 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v578 : Index := Scalar.indexCast v1
  let c7680 : Index := 7680#32
  ![v578.toNat, 7680]
def k0_off62 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v582 : Index := Scalar.indexCast v1
  let c7808 : Index := 7808#32
  ![v582.toNat, 7808]
def k0_off63 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v586 : Index := Scalar.indexCast v1
  let c7936 : Index := 7936#32
  ![v586.toNat, 7936]
def k0_off64 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v590 : Index := Scalar.indexCast v1
  let c8064 : Index := 8064#32
  ![v590.toNat, 8064]
def k0_off65 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v1229 : Index := Scalar.indexCast v1
  let c0_390 : Index := 0#32
  ![v1229.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x1024x8192 : Shape := ⟨3, ![4, 1024, 8192]⟩
abbrev S8192x4096 : Shape := ⟨2, ![8192, 4096]⟩
abbrev S8192x64 : Shape := ⟨2, ![8192, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x1024x64x128 : Shape := ⟨4, ![4, 1024, 64, 128]⟩
abbrev S64x4x1024x128 : Shape := ⟨4, ![64, 4, 1024, 128]⟩
abbrev S4x1024 : Shape := ⟨2, ![4, 1024]⟩
abbrev S4x1024x1 : Shape := ⟨3, ![4, 1024, 1]⟩
abbrev S8192x32x128 : Shape := ⟨3, ![8192, 32, 128]⟩
abbrev S8192x32 : Shape := ⟨2, ![8192, 32]⟩
abbrev S8192x32x1 : Shape := ⟨3, ![8192, 32, 1]⟩
abbrev S4x1024x4096 : Shape := ⟨3, ![4, 1024, 4096]⟩

abbrev nBuf : Space → Nat
  | .hbm => 149
  | .vmem => 0
  | .smem => 0
  | _ => 0

abbrev hbmTy0_0 (i : Nat) : BufTy := match i % 128 with
  | 0 => ⟨S4x1024x8192, .bf16⟩
  | 1 => ⟨S8192x4096, .i8⟩
  | 2 => ⟨S8192x64, .f32⟩
  | 3 => ⟨S64, .i32⟩
  | 4 => ⟨S64x1, .i32⟩
  | 5 => ⟨S1x64, .i32⟩
  | 6 => ⟨S64x64, .i32⟩
  | 7 => ⟨S64x64, .i32⟩
  | 8 => ⟨S64x64, .i32⟩
  | 9 => ⟨S_, .i32⟩
  | 10 => ⟨S64x64, .i32⟩
  | 11 => ⟨S_, .i32⟩
  | 12 => ⟨S64x64, .i32⟩
  | 13 => ⟨S64x64, .i32⟩
  | 14 => ⟨S_, .i32⟩
  | 15 => ⟨S64x64, .i32⟩
  | 16 => ⟨S64x64, .i32⟩
  | 17 => ⟨S64x64, .i32⟩
  | 18 => ⟨S_, .i32⟩
  | 19 => ⟨S64x64, .i32⟩
  | 20 => ⟨S64x64, .i32⟩
  | 21 => ⟨S_, .i32⟩
  | 22 => ⟨S64x64, .i32⟩
  | 23 => ⟨S64x64, .i32⟩
  | 24 => ⟨S64x64, .i32⟩
  | 25 => ⟨S_, .i32⟩
  | 26 => ⟨S64x64, .i32⟩
  | 27 => ⟨S64x64, .i32⟩
  | 28 => ⟨S_, .i32⟩
  | 29 => ⟨S64x64, .i32⟩
  | 30 => ⟨S64x64, .i32⟩
  | 31 => ⟨S64x64, .i32⟩
  | 32 => ⟨S_, .i32⟩
  | 33 => ⟨S64x64, .i32⟩
  | 34 => ⟨S64x64, .i32⟩
  | 35 => ⟨S_, .i32⟩
  | 36 => ⟨S64x64, .i32⟩
  | 37 => ⟨S64x64, .i32⟩
  | 38 => ⟨S64x64, .i32⟩
  | 39 => ⟨S_, .i32⟩
  | 40 => ⟨S64x64, .i32⟩
  | 41 => ⟨S64x64, .i32⟩
  | 42 => ⟨S_, .i32⟩
  | 43 => ⟨S64x64, .i32⟩
  | 44 => ⟨S64x64, .i32⟩
  | 45 => ⟨S64x64, .i32⟩
  | 46 => ⟨S_, .i32⟩
  | 47 => ⟨S64x64, .i32⟩
  | 48 => ⟨S64x64, .i32⟩
  | 49 => ⟨S_, .i32⟩
  | 50 => ⟨S64x64, .i32⟩
  | 51 => ⟨S64x64, .i32⟩
  | 52 => ⟨S64x64, .i32⟩
  | 53 => ⟨S_, .i32⟩
  | 54 => ⟨S64x64, .i32⟩
  | 55 => ⟨S64x64, .i32⟩
  | 56 => ⟨S_, .i32⟩
  | 57 => ⟨S64x64, .i32⟩
  | 58 => ⟨S64x64, .i1⟩
  | 59 => ⟨S_, .f32⟩
  | 60 => ⟨S_, .f32⟩
  | 61 => ⟨S64x64, .f32⟩
  | 62 => ⟨S64x64, .f32⟩
  | 63 => ⟨S64x64, .f32⟩
  | 64 => ⟨S4x1024x64x128, .bf16⟩
  | 65 => ⟨S4x1024x64x128, .f32⟩
  | 66 => ⟨S64x4x1024x128, .f32⟩
  | 67 => ⟨S4x1024x64x128, .f32⟩
  | 68 => ⟨S_, .f32⟩
  | 69 => ⟨S4x1024x64x128, .f32⟩
  | 70 => ⟨S4x1024x64x128, .f32⟩
  | 71 => ⟨S4x1024x8192, .f32⟩
  | 72 => ⟨S4x1024x8192, .f32⟩
  | 73 => ⟨S_, .f32⟩
  | 74 => ⟨S4x1024, .f32⟩
  | 75 => ⟨S_, .f32⟩
  | 76 => ⟨S4x1024, .f32⟩
  | 77 => ⟨S4x1024, .i1⟩
  | 78 => ⟨S_, .f32⟩
  | 79 => ⟨S4x1024, .f32⟩
  | 80 => ⟨S4x1024, .f32⟩
  | 81 => ⟨S_, .f32⟩
  | 82 => ⟨S4x1024, .f32⟩
  | 83 => ⟨S4x1024, .f32⟩
  | 84 => ⟨S4x1024x1, .f32⟩
  | 85 => ⟨S4x1024x8192, .f32⟩
  | 86 => ⟨S4x1024x8192, .f32⟩
  | 87 => ⟨S4x1024x8192, .f32⟩
  | 88 => ⟨S_, .f32⟩
  | 89 => ⟨S_, .f32⟩
  | 90 => ⟨S_, .f32⟩
  | 91 => ⟨S4x1024x8192, .f32⟩
  | 92 => ⟨S4x1024x8192, .f32⟩
  | 93 => ⟨S_, .f32⟩
  | 94 => ⟨S4x1024x8192, .f32⟩
  | 95 => ⟨S4x1024x8192, .f32⟩
  | 96 => ⟨S4x1024x8192, .i32⟩
  | 97 => ⟨S4x1024x8192, .i8⟩
  | 98 => ⟨S4x1024x8192, .i8⟩
  | 99 => ⟨S4x1024, .f32⟩
  | 100 => ⟨S8192x4096, .i32⟩
  | 101 => ⟨S_, .i32⟩
  | 102 => ⟨S8192x4096, .i32⟩
  | 103 => ⟨S8192x4096, .i32⟩
  | 104 => ⟨S_, .i32⟩
  | 105 => ⟨S8192x4096, .i32⟩
  | 106 => ⟨S8192x4096, .i1⟩
  | 107 => ⟨S8192x4096, .i32⟩
  | 108 => ⟨S_, .i32⟩
  | 109 => ⟨S8192x4096, .i32⟩
  | 110 => ⟨S8192x4096, .i32⟩
  | 111 => ⟨S8192x4096, .i32⟩
  | 112 => ⟨S8192x4096, .bf16⟩
  | 113 => ⟨S_, .i32⟩
  | 114 => ⟨S8192x4096, .i32⟩
  | 115 => ⟨S8192x4096, .i32⟩
  | 116 => ⟨S_, .i32⟩
  | 117 => ⟨S8192x4096, .i32⟩
  | 118 => ⟨S8192x4096, .i1⟩
  | 119 => ⟨S8192x4096, .i32⟩
  | 120 => ⟨S_, .i32⟩
  | 121 => ⟨S8192x4096, .i32⟩
  | 122 => ⟨S8192x4096, .i32⟩
  | 123 => ⟨S8192x4096, .i32⟩
  | 124 => ⟨S8192x4096, .bf16⟩
  | 125 => ⟨S8192x64, .bf16⟩
  | 126 => ⟨S8192x32x128, .bf16⟩
  | 127 => ⟨S8192x32, .bf16⟩
  | _ => ⟨S4x1024x8192, .bf16⟩

abbrev hbmTy0_1 (i : Nat) : BufTy := match i % 128 with
  | 0 => ⟨S8192x32x1, .bf16⟩
  | 1 => ⟨S8192x32x128, .bf16⟩
  | 2 => ⟨S8192x32x128, .bf16⟩
  | 3 => ⟨S8192x4096, .bf16⟩
  | 4 => ⟨S8192x32x128, .bf16⟩
  | 5 => ⟨S8192x32, .bf16⟩
  | 6 => ⟨S8192x32x1, .bf16⟩
  | 7 => ⟨S8192x32x128, .bf16⟩
  | 8 => ⟨S8192x32x128, .bf16⟩
  | 9 => ⟨S8192x4096, .bf16⟩
  | 10 => ⟨S4x1024x8192, .i32⟩
  | 11 => ⟨S4x1024x8192, .bf16⟩
  | 12 => ⟨S4x1024x4096, .bf16⟩
  | 13 => ⟨S4x1024x8192, .f32⟩
  | 14 => ⟨S4x1024x4096, .bf16⟩
  | 15 => ⟨S4x1024x8192, .f32⟩
  | 16 => ⟨S4x1024x8192, .f32⟩
  | 17 => ⟨S4x1024x1, .f32⟩
  | 18 => ⟨S4x1024x8192, .f32⟩
  | 19 => ⟨S4x1024x8192, .f32⟩
  | 20 => ⟨S4x1024x8192, .bf16⟩
  | _ => ⟨S4x1024x8192, .bf16⟩

abbrev hbmTy (i : Nat) : BufTy := match i / 128 with
  | 0 => hbmTy0_0 i
  | 1 => hbmTy0_1 i
  | _ => ⟨S4x1024x8192, .bf16⟩

abbrev bufTy : (tb : Table) → Fin (tcTables nBuf tb) → BufTy
  | .hbm, ⟨i, _⟩ => hbmTy i
  | _, _ => ⟨S4x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_10 : Ref sig .tc := ⟨.hbm, 46, rfl⟩
abbrev main_v32 : Ref sig .tc := ⟨.hbm, 47, rfl⟩
abbrev main_v33 : Ref sig .tc := ⟨.hbm, 48, rfl⟩
abbrev main_c_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_12 : Ref sig .tc := ⟨.hbm, 53, rfl⟩
abbrev main_v37 : Ref sig .tc := ⟨.hbm, 54, rfl⟩
abbrev main_v38 : Ref sig .tc := ⟨.hbm, 55, rfl⟩
abbrev main_c_13 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_cst_14 : Ref sig .tc := ⟨.hbm, 60, rfl⟩
abbrev main_call0_v0 : Ref sig .tc := ⟨.hbm, 61, rfl⟩
abbrev main_call0_v1 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_15 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_cst_17 : Ref sig .tc := ⟨.hbm, 75, rfl⟩
abbrev main_v51 : Ref sig .tc := ⟨.hbm, 76, rfl⟩
abbrev main_v52 : Ref sig .tc := ⟨.hbm, 77, rfl⟩
abbrev main_cst_18 : Ref sig .tc := ⟨.hbm, 78, rfl⟩
abbrev main_v53 : Ref sig .tc := ⟨.hbm, 79, rfl⟩
abbrev main_v54 : Ref sig .tc := ⟨.hbm, 80, rfl⟩
abbrev main_cst_19 : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_20 : Ref sig .tc := ⟨.hbm, 88, rfl⟩
abbrev main_cst_21 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63_0 : Ref sig .tc := ⟨.hbm, 98, rfl⟩
abbrev main_v63_1 : Ref sig .tc := ⟨.hbm, 99, rfl⟩
abbrev main_v64 : Ref sig .tc := ⟨.hbm, 100, rfl⟩
abbrev main_c_22 : Ref sig .tc := ⟨.hbm, 101, rfl⟩
abbrev main_v65 : Ref sig .tc := ⟨.hbm, 102, rfl⟩
abbrev main_v66 : Ref sig .tc := ⟨.hbm, 103, rfl⟩
abbrev main_c_23 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_24 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_25 : Ref sig .tc := ⟨.hbm, 113, rfl⟩
abbrev main_v74 : Ref sig .tc := ⟨.hbm, 114, rfl⟩
abbrev main_v75 : Ref sig .tc := ⟨.hbm, 115, rfl⟩
abbrev main_c_26 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_27 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]
-- ==== Proof.FrameK.lean ====
/- The run of the kernel as it stands's two regions: each window's block at a grid point, each region's body run to the
   pieces it leaves in its output buffers, and the whole program's run to the buffer contents at every boundary. The
   text follows the generated certificate; region 0's run states its pieces by hand (`pieces0`), because the pieces a
   loop's trips write have first to be shown not to depend on what the buffers held before (`pb0_indep`). -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rotate_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S64x8192 .i8 := (Memref.whole cc0_stg1_0 : Memref sig .tc .vmem S64x8192 .i8).view
/-- One staging buffer of output window 2, through which its contents are stated (`View.read_writes_of_cover`: the
    choice does not matter). -/
abbrev VO0_2 : View sig .tc .vmem S64x8192 .bf16 := (Memref.whole cc0_stg2_0 : Memref sig .tc .vmem S64x8192 .bf16).view
/-- One staging buffer of output window 3, through which its contents are stated (`View.read_writes_of_cover`: the
    choice does not matter). -/
abbrev VO0_3 : View sig .tc .vmem S64x1 .f32 := (Memref.whole cc0_stg3_0 : Memref sig .tc .vmem S64x1 .f32).view
/-- Each window's current staging memref at point `t`, spelled as the pipeline passes it (`bodyAt0`), and its wholeness. -/
abbrev ms0_0 (t : Fin cfg0.N) : Memref sig .tc .vmem S64x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8192 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S32x8192 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

/-- The lists of pieces one trip writes do not depend on what the written buffers held before: the trip reads back only
    what it wrote itself. -/
theorem trip0_indep (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole) (X : BufTy.Contents (Elt F) arg1.view.ty) (k : Fin k0_t1_loop.trips) :
    ∃ L1 L2 L3 L4, ∀ (f2 : BufTy.Contents (Elt F) arg2.view.ty) (f3 : BufTy.Contents (Elt F) arg3.view.ty) (f4 : BufTy.Contents (Elt F) arg4.view.ty) (f5 : BufTy.Contents (Elt F) arg5.view.ty),
      (trip_k0_t1 (F := F) Variants.none c none i arg1 harg1 arg2 harg2 arg3 harg3 arg4 harg4 arg5 harg5 X k).1 f2 f3 f4 f5 = L1
      ∧ (trip_k0_t1 (F := F) Variants.none c none i arg1 harg1 arg2 harg2 arg3 harg3 arg4 harg4 arg5 harg5 X k).2.1 f2 f3 f4 f5 = L2
      ∧ (trip_k0_t1 (F := F) Variants.none c none i arg1 harg1 arg2 harg2 arg3 harg3 arg4 harg4 arg5 harg5 X k).2.2.1 f2 f3 f4 f5 = L3
      ∧ (trip_k0_t1 (F := F) Variants.none c none i arg1 harg1 arg2 harg2 arg3 harg3 arg4 harg4 arg5 harg5 X k).2.2.2.1 f2 f3 f4 f5 = L4 := by
  unfold trip_k0_t1
  exact ⟨_, _, _, _, fun _ _ _ _ => ⟨rfl, rfl, rfl, rfl⟩⟩

attribute [local irreducible] pb_k0_t1 in
/-- So neither do the pieces of all the trips before `n`. -/
theorem pb0_indep (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole) (X : BufTy.Contents (Elt F) arg1.view.ty)
    (f2 g2 : BufTy.Contents (Elt F) arg2.view.ty) (f3 g3 : BufTy.Contents (Elt F) arg3.view.ty) (f4 g4 : BufTy.Contents (Elt F) arg4.view.ty) (f5 g5 : BufTy.Contents (Elt F) arg5.view.ty) (n : ℕ) (hn : n ≤ k0_t1_loop.trips) :
    pb_k0_t1 (F := F) Variants.none c none i arg1 harg1 arg2 harg2 arg3 harg3 arg4 harg4 arg5 harg5 X f2 f3 f4 f5 n = pb_k0_t1 (F := F) Variants.none c none i arg1 harg1 arg2 harg2 arg3 harg3 arg4 harg4 arg5 harg5 X g2 g3 g4 g5 n := by
  induction n with
  | zero => exact (pb_k0_t1.eq_1 (F := F) Variants.none c none i arg1 harg1 arg2 harg2 arg3 harg3 arg4 harg4 arg5 harg5 X f2 f3 f4 f5).trans (pb_k0_t1.eq_1 (F := F) Variants.none c none i arg1 harg1 arg2 harg2 arg3 harg3 arg4 harg4 arg5 harg5 X g2 g3 g4 g5).symm
  | succ n ih =>
    have ih := ih (Nat.le_of_succ_le hn)
    have h1 := pb_k0_t1_succ (F := F) Variants.none c none i arg1 harg1 arg2 harg2 arg3 harg3 arg4 harg4 arg5 harg5 X f2 f3 f4 f5 ⟨n, hn⟩
    have h2 := pb_k0_t1_succ (F := F) Variants.none c none i arg1 harg1 arg2 harg2 arg3 harg3 arg4 harg4 arg5 harg5 X g2 g3 g4 g5 ⟨n, hn⟩
    dsimp only at h1 h2
    refine h1.trans (Eq.trans ?_ h2.symm)
    obtain ⟨L1, L2, L3, L4, hL⟩ := trip0_indep c i arg1 harg1 arg2 harg2 arg3 harg3 arg4 harg4 arg5 harg5 X ⟨n, hn⟩
    simp only [ih, fun f2 f3 f4 f5 => (hL f2 f3 f4 f5).1, fun f2 f3 f4 f5 => (hL f2 f3 f4 f5).2.1, fun f2 f3 f4 f5 => (hL f2 f3 f4 f5).2.2.1, fun f2 f3 f4 f5 => (hL f2 f3 f4 f5).2.2.2]

/-- The pieces the region's body writes into each buffer, over its two trips. -/
abbrev pieces0 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole) (x0 : Vec F S64x8192 .bf16) :=
  pb_k0_t1 (F := F) Variants.none c none i arg1 harg1 arg2 harg2 arg3 harg3 arg4 harg4 arg5 harg5 (harg1.unread x0) arg2.view.junk arg3.view.junk arg4.view.junk arg5.view.junk k0_t1_loop.trips

/-- What the body's stores leave in each output's staging memref, as pieces (last first), WITH the proof that on whole
    staging memrefs — the inputs' at their contents, everything else at anything — the body runs to the continuation
    holding the inputs' as they were, the scratch at some contents, each output's buffer with its pieces written. -/
noncomputable def kernelRun0_A (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) :
    Σ' (L1 : List (View.Piece (Elt F) S64x8192 .i8)), Σ' (L2 : List (View.Piece (Elt F) S64x8192 .bf16)), { L3 : List (View.Piece (Elt F) S64x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d)) -∗ K ⟨⟩))
          ⊢ wp frame (wpE (defs₀ (F := F)) Variants.none c none) E (cc0_rotate_quant i arg1 harg1 arg2 harg2 arg3 harg3 arg4 harg4 arg5 harg5) K } := by
  refine ⟨(pieces0 c i arg1 harg1 arg2 harg2 arg3 harg3 arg4 harg4 arg5 harg5 x0).1, (pieces0 c i arg1 harg1 arg2 harg2 arg3 harg3 arg4 harg4 arg5 harg5 x0).2.1, (pieces0 c i arg1 harg1 arg2 harg2 arg3 harg3 arg4 harg4 arg5 harg5 x0).2.2.1, fun E K => ?run⟩
  case run =>
    simp only [cc0_rotate_quant_eq_skeleton]; unfold cc0_rotate_quant_skel
    unfold owns
    iintro ⟨⟨%f0, %hf0, H0⟩, ⟨%d1, %f1, -, H1⟩, ⟨%d2, %f2, -, H2⟩, ⟨%d3, %f3, -, H3⟩, ⟨%ds0, %fs0, -, HS0⟩, Hk⟩
    obtain rfl := harg1.eq_unread hf0
    have hpb := pb0_indep c i arg1 harg1 arg2 harg2 arg3 harg3 arg4 harg4 arg5 harg5 (harg1.unread x0) f1 arg2.view.junk f2 arg3.view.junk f3 arg4.view.junk fs0 arg5.view.junk k0_t1_loop.trips (Nat.le_refl _)
    sl_exec
    sl_step
    simp only [show Scf.trips k0_t1_loop.lb k0_t1_loop.ub k0_t1_loop.st = k0_t1_loop.trips from rfl, hpb]
    iapply Hk
    isplitl [H0]
    · iexists _; isplitr; · ipureintro; exact harg1.read_unread _
      iexact H0
    isplitl [H1]; · iexists f1; iexact H1
    isplitl [H2]; · iexists f2; iexact H2
    isplitl [H3]; · iexists f3; iexact H3
    iexists _, _; isplitr; swap; · iexact HS0
    ipureintro; rfl

/-- The run's pieces for output 1 tile its block (128 stores of `S32x128`, checked by the kernel's evaluation: Lib/Ring.lean `Piece.tiledL`, linear in the pieces, through a loop's `@[irreducible]` trip theorem too), so they cover it. -/
theorem cover0_A_1 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) (y : S64x8192.Idx) :
    ∃ pc ∈ (kernelRun0_A c i arg1 harg1 arg2 harg2 arg3 harg3 arg4 harg4 arg5 harg5 x0).1, y ∈ pc.1.set :=
  View.cover_of_tiledL (kernelRun0_A c i arg1 harg1 arg2 harg2 arg3 harg3 arg4 harg4 arg5 harg5 x0).1 S32x128.size (by sl_kernel_rfl) y

/-- What the run leaves in output 1's staging buffer: its pieces read back over junk. -/
def out0_A_1 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) : Vec F S64x8192 .i8 :=
  VO0_1.read (Elt F) (VO0_1.writes (Elt F) VO0_1.junk (kernelRun0_A c i arg1 harg1 arg2 harg2 arg3 harg3 arg4 harg4 arg5 harg5 x0).1)

/-- The run's pieces for output 2 tile its block (128 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) (y : S64x8192.Idx) :
    ∃ pc ∈ (kernelRun0_A c i arg1 harg1 arg2 harg2 arg3 harg3 arg4 harg4 arg5 harg5 x0).2.1, y ∈ pc.1.set :=
  View.cover_of_tiledL (kernelRun0_A c i arg1 harg1 arg2 harg2 arg3 harg3 arg4 harg4 arg5 harg5 x0).2.1 S32x128.size (by sl_kernel_rfl) y

/-- What the run leaves in output 2's staging buffer: its pieces read back over junk. -/
def out0_A_2 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) : Vec F S64x8192 .bf16 :=
  VO0_2.read (Elt F) (VO0_2.writes (Elt F) VO0_2.junk (kernelRun0_A c i arg1 harg1 arg2 harg2 arg3 harg3 arg4 harg4 arg5 harg5 x0).2.1)

/-- The run's pieces for output 3 tile its block (2 stores of `S32x1`, checked by the kernel's evaluation: Lib/Ring.lean `Piece.tiledL`, linear in the pieces, through a loop's `@[irreducible]` trip theorem too), so they cover it. -/
theorem cover0_A_3 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) (y : S64x1.Idx) :
    ∃ pc ∈ (kernelRun0_A c i arg1 harg1 arg2 harg2 arg3 harg3 arg4 harg4 arg5 harg5 x0).2.2.1, y ∈ pc.1.set :=
  View.cover_of_tiledL (kernelRun0_A c i arg1 harg1 arg2 harg2 arg3 harg3 arg4 harg4 arg5 harg5 x0).2.2.1 S32x1.size (by sl_kernel_rfl) y

/-- What the run leaves in output 3's staging buffer: its pieces read back over junk. -/
def out0_A_3 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) : Vec F S64x1 .f32 :=
  VO0_3.read (Elt F) (VO0_3.writes (Elt F) VO0_3.junk (kernelRun0_A c i arg1 harg1 arg2 harg2 arg3 harg3 arg4 harg4 arg5 harg5 x0).2.2.1)

/-! ## What the outputs hold after each point -/

/-- What the outputs' staging buffers hold after the body at point `t` (as a tuple, in window order): the run's contents at
    the point's memrefs and input blocks. -/
def outsAt0 (c : Dev nD) (t : Fin cfg0.N) : Vec F S64x8192 .i8 × Vec F S64x8192 .bf16 × Vec F S64x1 .f32 :=
  (out0_A_1 c (grid0.coords t) (ms0_0 t) (hs0_0 t) (ms0_1 t) (hs0_1 t) (ms0_2 t) (hs0_2 t) (ms0_3 t) (hs0_3 t) scM0_0 (Memref.isWhole_whole _) (iblk0 V c 0 t), out0_A_2 c (grid0.coords t) (ms0_0 t) (hs0_0 t) (ms0_1 t) (hs0_1 t) (ms0_2 t) (hs0_2 t) (ms0_3 t) (hs0_3 t) scM0_0 (Memref.isWhole_whole _) (iblk0 V c 0 t), out0_A_3 c (grid0.coords t) (ms0_0 t) (hs0_0 t) (ms0_1 t) (hs0_1 t) (ms0_2 t) (hs0_2 t) (ms0_3 t) (hs0_3 t) scM0_0 (Memref.isWhole_whole _) (iblk0 V c 0 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2.1
    | ⟨3, _⟩ => (outsAt0 V c t).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t).1 := by dsimp only [dat0]
theorem after0_2 (c : Dev nD) (t : Fin cfg0.N) : (dat0 V c).after 2 t = (outsAt0 V c t).2.1 := by dsimp only [dat0]
theorem after0_3 (c : Dev nD) (t : Fin cfg0.N) : (dat0 V c).after 3 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  unfold outsAt0
  unfold out0_A_1 out0_A_2 out0_A_3; (try dsimp only)
  iintro ⟨⟨⟨HS0, HR1, HR2, HR3, HR4, HR5, HR6, HR7, HR8, HR9, HR10, HR11⟩, Hg⟩, Ho, ⟨%d0, H0⟩, ⟨%d1, H1⟩, ⟨%d2, H2⟩, ⟨%d3, H3⟩⟩
  iapply ((kernelRun0_A c (grid0.coords t) _ _ _ _ _ _ _ _ _ _ (iblk0 V c 0 t)).2.2.2 Set.univ _)
  isplitl [H0]; · iexact H0
  isplitl [H1]; · iexists _; iexact H1
  isplitl [H2]; · iexists _; iexact H2
  isplitl [H3]; · iexists _; iexact H3
  isplitl [HS0]; · iexact HS0
  iintro ⟨H0, ⟨%e1, H1⟩, ⟨%e2, H2⟩, ⟨%e3, H3⟩, HS0⟩
  isplitl [HS0 HR1 HR2 HR3 HR4 HR5 HR6 HR7 HR8 HR9 HR10 HR11 Hg]
  · isplitl [HS0 HR1 HR2 HR3 HR4 HR5 HR6 HR7 HR8 HR9 HR10 HR11]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      iexact HR11
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _)
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_w4a4_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S512x512 .bf16 := (Memref.whole cc1_stg4_0 : Memref sig .tc .vmem S512x512 .bf16).view
/-- Each window's current staging memref at point `t`, spelled as the pipeline passes it (`bodyAt1`), and its wholeness. -/
abbrev ms1_0 (t : Fin cfg1.N) : Memref sig .tc .vmem S512x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S512x8192 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1092000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S512x8192 .bf16) (harg2 : arg2.IsWhole) (arg3 : Memref sig .tc .vmem S512x4096 .i8) (harg3 : arg3.IsWhole) (arg4 : Memref sig .tc .vmem S512x64 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x8192 .bf16) (harg7 : arg7.IsWhole)
    (x0 : Vec F S512x8192 .bf16) (x1 : Vec F S512x4096 .i8) (x2 : Vec F S512x64 .f32) (x3 : Vec F S512x1 .f32) :
    Σ' (L4 : List (View.Piece (Elt F) S512x512 .bf16)), { LT0 : List (View.Piece (Elt F) S512x8192 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LT0)) -∗ K ⟨⟩))
          ⊢ wp frame (wpE (defs₀ (F := F)) Variants.none c none) E (cc1_w4a4_matmul i arg2 harg2 arg3 harg3 arg4 harg4 arg5 harg5 arg6 harg6 arg7 harg7) K } := by
  refine ⟨?_, ?_, fun E K => ?run⟩
  case run =>
    simp only [cc1_w4a4_matmul_eq_skeleton]; unfold cc1_w4a4_matmul_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The run's pieces for output 4 tile its block (1 store of `S512x512`, checked by the kernel's evaluation: Lib/Ring.lean `Piece.tiledL`, linear in the pieces, through a loop's `@[irreducible]` trip theorem too), so they cover it. -/
theorem cover1_A_4 (c : Dev nD) (i : grid1.Coords) (arg2 : Memref sig .tc .vmem S512x8192 .bf16) (harg2 : arg2.IsWhole) (arg3 : Memref sig .tc .vmem S512x4096 .i8) (harg3 : arg3.IsWhole) (arg4 : Memref sig .tc .vmem S512x64 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x8192 .bf16) (harg7 : arg7.IsWhole)
    (x0 : Vec F S512x8192 .bf16) (x1 : Vec F S512x4096 .i8) (x2 : Vec F S512x64 .f32) (x3 : Vec F S512x1 .f32) (y : S512x512.Idx) :
    ∃ pc ∈ (kernelRun1_A c i arg2 harg2 arg3 harg3 arg4 harg4 arg5 harg5 arg6 harg6 arg7 harg7 x0 x1 x2 x3).1, y ∈ pc.1.set :=
  View.cover_of_tiledL (kernelRun1_A c i arg2 harg2 arg3 harg3 arg4 harg4 arg5 harg5 arg6 harg6 arg7 harg7 x0 x1 x2 x3).1 S512x512.size (by sl_kernel_rfl) y

/-- What the run leaves in output 4's staging buffer: its pieces read back over junk. -/
def out1_A_4 (c : Dev nD) (i : grid1.Coords) (arg2 : Memref sig .tc .vmem S512x8192 .bf16) (harg2 : arg2.IsWhole) (arg3 : Memref sig .tc .vmem S512x4096 .i8) (harg3 : arg3.IsWhole) (arg4 : Memref sig .tc .vmem S512x64 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x8192 .bf16) (harg7 : arg7.IsWhole)
    (x0 : Vec F S512x8192 .bf16) (x1 : Vec F S512x4096 .i8) (x2 : Vec F S512x64 .f32) (x3 : Vec F S512x1 .f32) : Vec F S512x512 .bf16 :=
  VO1_4.read (Elt F) (VO1_4.writes (Elt F) VO1_4.junk (kernelRun1_A c i arg2 harg2 arg3 harg3 arg4 harg4 arg5 harg5 arg6 harg6 arg7 harg7 x0 x1 x2 x3).1)

/-! ## What the outputs hold after each point -/

/-- What the outputs' staging buffers hold after the body at point `t`: the run's contents at
    the point's memrefs and input blocks. -/
def outsAt1 (c : Dev nD) (t : Fin cfg1.N) : Vec F S512x512 .bf16 :=
  out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  unfold outsAt1
  unfold out1_A_4
  iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
  iapply ((kernelRun1_A c (grid1.coords t) _ _ _ _ _ _ _ _ _ _ _ _ (iblk1 V c 0 t) (iblk1 V c 1 t) (iblk1 V c 2 t) (iblk1 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%fT0, HS0⟩⟩
  isplitl [HR0 HR1 HR2 HR3 HR4 HR5 HR6 HR7 HR8 HS0 Hg]
  · isplitl [HR0 HR1 HR2 HR3 HR4 HR5 HR6 HR7 HR8 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4, main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.Kernel.Fr

end
-- ==== Proof.FrameKI.lean ====
/- The run of the idealized kernel's two regions: each window's block at a grid point, each region's body run to the
   pieces it leaves in its output buffers, and the whole program's run to the buffer contents at every boundary. The
   text follows the generated certificate; region 0's run states its pieces by hand (`pieces0`), because the pieces a
   loop's trips write have first to be shown not to depend on what the buffers held before (`pb0_indep`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_rotate_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S64x8192 .i8 := (Memref.whole cc0_stg1_0 : Memref sig .tc .vmem S64x8192 .i8).view
/-- One staging buffer of output window 2, through which its contents are stated (`View.read_writes_of_cover`: the
    choice does not matter). -/
abbrev VO0_2 : View sig .tc .vmem S64x8192 .bf16 := (Memref.whole cc0_stg2_0 : Memref sig .tc .vmem S64x8192 .bf16).view
/-- One staging buffer of output window 3, through which its contents are stated (`View.read_writes_of_cover`: the
    choice does not matter). -/
abbrev VO0_3 : View sig .tc .vmem S64x1 .f32 := (Memref.whole cc0_stg3_0 : Memref sig .tc .vmem S64x1 .f32).view
/-- Each window's current staging memref at point `t`, spelled as the pipeline passes it (`bodyAt0`), and its wholeness. -/
abbrev ms0_0 (t : Fin cfg0.N) : Memref sig .tc .vmem S64x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8192 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S32x8192 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

/-- The lists of pieces one trip writes do not depend on what the written buffers held before: the trip reads back only
    what it wrote itself. -/
theorem trip0_indep (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole) (X : BufTy.Contents (Elt F) arg1.view.ty) (k : Fin k0_t1_loop.trips) :
    ∃ L1 L2 L3 L4, ∀ (f2 : BufTy.Contents (Elt F) arg2.view.ty) (f3 : BufTy.Contents (Elt F) arg3.view.ty) (f4 : BufTy.Contents (Elt F) arg4.view.ty) (f5 : BufTy.Contents (Elt F) arg5.view.ty),
      (trip_k0_t1 (F := F) Variants.none c none i arg1 harg1 arg2 harg2 arg3 harg3 arg4 harg4 arg5 harg5 X k).1 f2 f3 f4 f5 = L1
      ∧ (trip_k0_t1 (F := F) Variants.none c none i arg1 harg1 arg2 harg2 arg3 harg3 arg4 harg4 arg5 harg5 X k).2.1 f2 f3 f4 f5 = L2
      ∧ (trip_k0_t1 (F := F) Variants.none c none i arg1 harg1 arg2 harg2 arg3 harg3 arg4 harg4 arg5 harg5 X k).2.2.1 f2 f3 f4 f5 = L3
      ∧ (trip_k0_t1 (F := F) Variants.none c none i arg1 harg1 arg2 harg2 arg3 harg3 arg4 harg4 arg5 harg5 X k).2.2.2.1 f2 f3 f4 f5 = L4 := by
  unfold trip_k0_t1
  exact ⟨_, _, _, _, fun _ _ _ _ => ⟨rfl, rfl, rfl, rfl⟩⟩

attribute [local irreducible] pb_k0_t1 in
/-- So neither do the pieces of all the trips before `n`. -/
theorem pb0_indep (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole) (X : BufTy.Contents (Elt F) arg1.view.ty)
    (f2 g2 : BufTy.Contents (Elt F) arg2.view.ty) (f3 g3 : BufTy.Contents (Elt F) arg3.view.ty) (f4 g4 : BufTy.Contents (Elt F) arg4.view.ty) (f5 g5 : BufTy.Contents (Elt F) arg5.view.ty) (n : ℕ) (hn : n ≤ k0_t1_loop.trips) :
    pb_k0_t1 (F := F) Variants.none c none i arg1 harg1 arg2 harg2 arg3 harg3 arg4 harg4 arg5 harg5 X f2 f3 f4 f5 n = pb_k0_t1 (F := F) Variants.none c none i arg1 harg1 arg2 harg2 arg3 harg3 arg4 harg4 arg5 harg5 X g2 g3 g4 g5 n := by
  induction n with
  | zero => exact (pb_k0_t1.eq_1 (F := F) Variants.none c none i arg1 harg1 arg2 harg2 arg3 harg3 arg4 harg4 arg5 harg5 X f2 f3 f4 f5).trans (pb_k0_t1.eq_1 (F := F) Variants.none c none i arg1 harg1 arg2 harg2 arg3 harg3 arg4 harg4 arg5 harg5 X g2 g3 g4 g5).symm
  | succ n ih =>
    have ih := ih (Nat.le_of_succ_le hn)
    have h1 := pb_k0_t1_succ (F := F) Variants.none c none i arg1 harg1 arg2 harg2 arg3 harg3 arg4 harg4 arg5 harg5 X f2 f3 f4 f5 ⟨n, hn⟩
    have h2 := pb_k0_t1_succ (F := F) Variants.none c none i arg1 harg1 arg2 harg2 arg3 harg3 arg4 harg4 arg5 harg5 X g2 g3 g4 g5 ⟨n, hn⟩
    dsimp only at h1 h2
    refine h1.trans (Eq.trans ?_ h2.symm)
    obtain ⟨L1, L2, L3, L4, hL⟩ := trip0_indep c i arg1 harg1 arg2 harg2 arg3 harg3 arg4 harg4 arg5 harg5 X ⟨n, hn⟩
    simp only [ih, fun f2 f3 f4 f5 => (hL f2 f3 f4 f5).1, fun f2 f3 f4 f5 => (hL f2 f3 f4 f5).2.1, fun f2 f3 f4 f5 => (hL f2 f3 f4 f5).2.2.1, fun f2 f3 f4 f5 => (hL f2 f3 f4 f5).2.2.2]

/-- The pieces the region's body writes into each buffer, over its two trips. -/
abbrev pieces0 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole) (x0 : Vec F S64x8192 .bf16) :=
  pb_k0_t1 (F := F) Variants.none c none i arg1 harg1 arg2 harg2 arg3 harg3 arg4 harg4 arg5 harg5 (harg1.unread x0) arg2.view.junk arg3.view.junk arg4.view.junk arg5.view.junk k0_t1_loop.trips

/-- What the body's stores leave in each output's staging memref, as pieces (last first), WITH the proof that on whole
    staging memrefs — the inputs' at their contents, everything else at anything — the body runs to the continuation
    holding the inputs' as they were, the scratch at some contents, each output's buffer with its pieces written. -/
noncomputable def kernelRun0_A (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) :
    Σ' (L1 : List (View.Piece (Elt F) S64x8192 .i8)), Σ' (L2 : List (View.Piece (Elt F) S64x8192 .bf16)), { L3 : List (View.Piece (Elt F) S64x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d)) -∗ K ⟨⟩))
          ⊢ wp frame (wpE (defs₀ (F := F)) Variants.none c none) E (cc0_rotate_quant i arg1 harg1 arg2 harg2 arg3 harg3 arg4 harg4 arg5 harg5) K } := by
  refine ⟨(pieces0 c i arg1 harg1 arg2 harg2 arg3 harg3 arg4 harg4 arg5 harg5 x0).1, (pieces0 c i arg1 harg1 arg2 harg2 arg3 harg3 arg4 harg4 arg5 harg5 x0).2.1, (pieces0 c i arg1 harg1 arg2 harg2 arg3 harg3 arg4 harg4 arg5 harg5 x0).2.2.1, fun E K => ?run⟩
  case run =>
    simp only [cc0_rotate_quant_eq_skeleton]; unfold cc0_rotate_quant_skel
    unfold owns
    iintro ⟨⟨%f0, %hf0, H0⟩, ⟨%d1, %f1, -, H1⟩, ⟨%d2, %f2, -, H2⟩, ⟨%d3, %f3, -, H3⟩, ⟨%ds0, %fs0, -, HS0⟩, Hk⟩
    obtain rfl := harg1.eq_unread hf0
    have hpb := pb0_indep c i arg1 harg1 arg2 harg2 arg3 harg3 arg4 harg4 arg5 harg5 (harg1.unread x0) f1 arg2.view.junk f2 arg3.view.junk f3 arg4.view.junk fs0 arg5.view.junk k0_t1_loop.trips (Nat.le_refl _)
    sl_exec
    sl_step
    simp only [show Scf.trips k0_t1_loop.lb k0_t1_loop.ub k0_t1_loop.st = k0_t1_loop.trips from rfl, hpb]
    iapply Hk
    isplitl [H0]
    · iexists _; isplitr; · ipureintro; exact harg1.read_unread _
      iexact H0
    isplitl [H1]; · iexists f1; iexact H1
    isplitl [H2]; · iexists f2; iexact H2
    isplitl [H3]; · iexists f3; iexact H3
    iexists _, _; isplitr; swap; · iexact HS0
    ipureintro; rfl

/-- The run's pieces for output 1 tile its block (128 stores of `S32x128`, checked by the kernel's evaluation: Lib/Ring.lean `Piece.tiledL`, linear in the pieces, through a loop's `@[irreducible]` trip theorem too), so they cover it. -/
theorem cover0_A_1 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) (y : S64x8192.Idx) :
    ∃ pc ∈ (kernelRun0_A c i arg1 harg1 arg2 harg2 arg3 harg3 arg4 harg4 arg5 harg5 x0).1, y ∈ pc.1.set :=
  View.cover_of_tiledL (kernelRun0_A c i arg1 harg1 arg2 harg2 arg3 harg3 arg4 harg4 arg5 harg5 x0).1 S32x128.size (by sl_kernel_rfl) y

/-- What the run leaves in output 1's staging buffer: its pieces read back over junk. -/
def out0_A_1 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) : Vec F S64x8192 .i8 :=
  VO0_1.read (Elt F) (VO0_1.writes (Elt F) VO0_1.junk (kernelRun0_A c i arg1 harg1 arg2 harg2 arg3 harg3 arg4 harg4 arg5 harg5 x0).1)

/-- The run's pieces for output 2 tile its block (128 stores of `S32x128`, checked by the kernel's evaluation: Lib/Ring.lean `Piece.tiledL`, linear in the pieces, through a loop's `@[irreducible]` trip theorem too), so they cover it. -/
theorem cover0_A_2 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) (y : S64x8192.Idx) :
    ∃ pc ∈ (kernelRun0_A c i arg1 harg1 arg2 harg2 arg3 harg3 arg4 harg4 arg5 harg5 x0).2.1, y ∈ pc.1.set :=
  View.cover_of_tiledL (kernelRun0_A c i arg1 harg1 arg2 harg2 arg3 harg3 arg4 harg4 arg5 harg5 x0).2.1 S32x128.size (by sl_kernel_rfl) y

/-- What the run leaves in output 2's staging buffer: its pieces read back over junk. -/
def out0_A_2 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) : Vec F S64x8192 .bf16 :=
  VO0_2.read (Elt F) (VO0_2.writes (Elt F) VO0_2.junk (kernelRun0_A c i arg1 harg1 arg2 harg2 arg3 harg3 arg4 harg4 arg5 harg5 x0).2.1)

/-- The run's pieces for output 3 tile its block (2 stores of `S32x1`, checked by the kernel's evaluation: Lib/Ring.lean `Piece.tiledL`, linear in the pieces, through a loop's `@[irreducible]` trip theorem too), so they cover it. -/
theorem cover0_A_3 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) (y : S64x1.Idx) :
    ∃ pc ∈ (kernelRun0_A c i arg1 harg1 arg2 harg2 arg3 harg3 arg4 harg4 arg5 harg5 x0).2.2.1, y ∈ pc.1.set :=
  View.cover_of_tiledL (kernelRun0_A c i arg1 harg1 arg2 harg2 arg3 harg3 arg4 harg4 arg5 harg5 x0).2.2.1 S32x1.size (by sl_kernel_rfl) y

/-- What the run leaves in output 3's staging buffer: its pieces read back over junk. -/
def out0_A_3 (c : Dev nD) (i : grid0.Coords) (arg1 : Memref sig .tc .vmem S64x8192 .bf16) (harg1 : arg1.IsWhole) (arg2 : Memref sig .tc .vmem S64x8192 .i8) (harg2 : arg2.IsWhole) (arg3 : Memref sig .tc .vmem S64x8192 .bf16) (harg3 : arg3.IsWhole) (arg4 : Memref sig .tc .vmem S64x1 .f32) (harg4 : arg4.IsWhole) (arg5 : Memref sig .tc .vmem S32x8192 .f32) (harg5 : arg5.IsWhole)
    (x0 : Vec F S64x8192 .bf16) : Vec F S64x1 .f32 :=
  VO0_3.read (Elt F) (VO0_3.writes (Elt F) VO0_3.junk (kernelRun0_A c i arg1 harg1 arg2 harg2 arg3 harg3 arg4 harg4 arg5 harg5 x0).2.2.1)

/-! ## What the outputs hold after each point -/

/-- What the outputs' staging buffers hold after the body at point `t` (as a tuple, in window order): the run's contents at
    the point's memrefs and input blocks. -/
def outsAt0 (c : Dev nD) (t : Fin cfg0.N) : Vec F S64x8192 .i8 × Vec F S64x8192 .bf16 × Vec F S64x1 .f32 :=
  (out0_A_1 c (grid0.coords t) (ms0_0 t) (hs0_0 t) (ms0_1 t) (hs0_1 t) (ms0_2 t) (hs0_2 t) (ms0_3 t) (hs0_3 t) scM0_0 (Memref.isWhole_whole _) (iblk0 V c 0 t), out0_A_2 c (grid0.coords t) (ms0_0 t) (hs0_0 t) (ms0_1 t) (hs0_1 t) (ms0_2 t) (hs0_2 t) (ms0_3 t) (hs0_3 t) scM0_0 (Memref.isWhole_whole _) (iblk0 V c 0 t), out0_A_3 c (grid0.coords t) (ms0_0 t) (hs0_0 t) (ms0_1 t) (hs0_1 t) (ms0_2 t) (hs0_2 t) (ms0_3 t) (hs0_3 t) scM0_0 (Memref.isWhole_whole _) (iblk0 V c 0 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2.1
    | ⟨3, _⟩ => (outsAt0 V c t).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t).1 := by dsimp only [dat0]
theorem after0_2 (c : Dev nD) (t : Fin cfg0.N) : (dat0 V c).after 2 t = (outsAt0 V c t).2.1 := by dsimp only [dat0]
theorem after0_3 (c : Dev nD) (t : Fin cfg0.N) : (dat0 V c).after 3 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  unfold outsAt0
  unfold out0_A_1 out0_A_2 out0_A_3; (try dsimp only)
  iintro ⟨⟨⟨HS0, HR1, HR2, HR3, HR4, HR5, HR6, HR7, HR8, HR9, HR10, HR11⟩, Hg⟩, Ho, ⟨%d0, H0⟩, ⟨%d1, H1⟩, ⟨%d2, H2⟩, ⟨%d3, H3⟩⟩
  iapply ((kernelRun0_A c (grid0.coords t) _ _ _ _ _ _ _ _ _ _ (iblk0 V c 0 t)).2.2.2 Set.univ _)
  isplitl [H0]; · iexact H0
  isplitl [H1]; · iexists _; iexact H1
  isplitl [H2]; · iexists _; iexact H2
  isplitl [H3]; · iexists _; iexact H3
  isplitl [HS0]; · iexact HS0
  iintro ⟨H0, ⟨%e1, H1⟩, ⟨%e2, H2⟩, ⟨%e3, H3⟩, HS0⟩
  isplitl [HS0 HR1 HR2 HR3 HR4 HR5 HR6 HR7 HR8 HR9 HR10 HR11 Hg]
  · isplitl [HS0 HR1 HR2 HR3 HR4 HR5 HR6 HR7 HR8 HR9 HR10 HR11]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      iexact HR11
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _)
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_w4a4_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S512x512 .bf16 := (Memref.whole cc1_stg4_0 : Memref sig .tc .vmem S512x512 .bf16).view
/-- Each window's current staging memref at point `t`, spelled as the pipeline passes it (`bodyAt1`), and its wholeness. -/
abbrev ms1_0 (t : Fin cfg1.N) : Memref sig .tc .vmem S512x8192 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S512x8192 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1092000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S512x8192 .bf16) (harg2 : arg2.IsWhole) (arg3 : Memref sig .tc .vmem S512x4096 .i8) (harg3 : arg3.IsWhole) (arg4 : Memref sig .tc .vmem S512x64 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x8192 .bf16) (harg7 : arg7.IsWhole)
    (x0 : Vec F S512x8192 .bf16) (x1 : Vec F S512x4096 .i8) (x2 : Vec F S512x64 .f32) (x3 : Vec F S512x1 .f32) :
    Σ' (L4 : List (View.Piece (Elt F) S512x512 .bf16)), { LT0 : List (View.Piece (Elt F) S512x8192 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LT0)) -∗ K ⟨⟩))
          ⊢ wp frame (wpE (defs₀ (F := F)) Variants.none c none) E (cc1_w4a4_matmul i arg2 harg2 arg3 harg3 arg4 harg4 arg5 harg5 arg6 harg6 arg7 harg7) K } := by
  refine ⟨?_, ?_, fun E K => ?run⟩
  case run =>
    simp only [cc1_w4a4_matmul_eq_skeleton]; unfold cc1_w4a4_matmul_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The run's pieces for output 4 tile its block (1 store of `S512x512`, checked by the kernel's evaluation: Lib/Ring.lean `Piece.tiledL`, linear in the pieces, through a loop's `@[irreducible]` trip theorem too), so they cover it. -/
theorem cover1_A_4 (c : Dev nD) (i : grid1.Coords) (arg2 : Memref sig .tc .vmem S512x8192 .bf16) (harg2 : arg2.IsWhole) (arg3 : Memref sig .tc .vmem S512x4096 .i8) (harg3 : arg3.IsWhole) (arg4 : Memref sig .tc .vmem S512x64 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x8192 .bf16) (harg7 : arg7.IsWhole)
    (x0 : Vec F S512x8192 .bf16) (x1 : Vec F S512x4096 .i8) (x2 : Vec F S512x64 .f32) (x3 : Vec F S512x1 .f32) (y : S512x512.Idx) :
    ∃ pc ∈ (kernelRun1_A c i arg2 harg2 arg3 harg3 arg4 harg4 arg5 harg5 arg6 harg6 arg7 harg7 x0 x1 x2 x3).1, y ∈ pc.1.set :=
  View.cover_of_tiledL (kernelRun1_A c i arg2 harg2 arg3 harg3 arg4 harg4 arg5 harg5 arg6 harg6 arg7 harg7 x0 x1 x2 x3).1 S512x512.size (by sl_kernel_rfl) y

/-- What the run leaves in output 4's staging buffer: its pieces read back over junk. -/
def out1_A_4 (c : Dev nD) (i : grid1.Coords) (arg2 : Memref sig .tc .vmem S512x8192 .bf16) (harg2 : arg2.IsWhole) (arg3 : Memref sig .tc .vmem S512x4096 .i8) (harg3 : arg3.IsWhole) (arg4 : Memref sig .tc .vmem S512x64 .f32) (harg4 : arg4.IsWhole) (arg5 : Memref sig .tc .vmem S512x1 .f32) (harg5 : arg5.IsWhole) (arg6 : Memref sig .tc .vmem S512x512 .bf16) (harg6 : arg6.IsWhole) (arg7 : Memref sig .tc .vmem S512x8192 .bf16) (harg7 : arg7.IsWhole)
    (x0 : Vec F S512x8192 .bf16) (x1 : Vec F S512x4096 .i8) (x2 : Vec F S512x64 .f32) (x3 : Vec F S512x1 .f32) : Vec F S512x512 .bf16 :=
  VO1_4.read (Elt F) (VO1_4.writes (Elt F) VO1_4.junk (kernelRun1_A c i arg2 harg2 arg3 harg3 arg4 harg4 arg5 harg5 arg6 harg6 arg7 harg7 x0 x1 x2 x3).1)

/-! ## What the outputs hold after each point -/

/-- What the outputs' staging buffers hold after the body at point `t`: the run's contents at
    the point's memrefs and input blocks. -/
def outsAt1 (c : Dev nD) (t : Fin cfg1.N) : Vec F S512x512 .bf16 :=
  out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  unfold outsAt1
  unfold out1_A_4
  iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩⟩
  iapply ((kernelRun1_A c (grid1.coords t) _ _ _ _ _ _ _ _ _ _ _ _ (iblk1 V c 0 t) (iblk1 V c 1 t) (iblk1 V c 2 t) (iblk1 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%fT0, HS0⟩⟩
  isplitl [HR0 HR1 HR2 HR3 HR4 HR5 HR6 HR7 HR8 HS0 Hg]
  · isplitl [HR0 HR1 HR2 HR3 HR4 HR5 HR6 HR7 HR8 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4, main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters, every weakly fair execution of @main on the TensorCores terminates,
    nothing faulting, and every final state holds `W4` in every array of @main, with every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: `Cert.quiescent_KernelIdeal`'s statement (Defs.lean) at any `F`: every run ends, nothing faulting, with the
    argument arrays as launched and every semaphore counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.KernelIdeal.Fr

end
-- ==== Proof.RefFrame.lean ====
module

public import proofs.«01_k».proof.Defs
public import proofs.«01_k».proof.Proof.Gen.ReferenceIdeal
public import proofs.«01_k».proof.Proof.Gen.ReferenceIdeal.Run
public import Idealize.ShloMosaic.PureOps.Ideal

@[expose] public section

set_option maxRecDepth 16384

noncomputable section

namespace Cert.ReferenceIdeal.Value

open Cert.ReferenceIdeal Idealize.ShloMosaic Idealize.SL.Sem

/-- The reference runs on the host alone: there is no semaphore. -/
theorem no_sem : SemLoc sig → False
  | .reg s => s.elim0
  | .dma s => s.elim0

/-- The reference's run leaves its arguments unchanged, and every counter at zero. -/
theorem frame : Cert.quiescent_ReferenceIdeal := fun m ρ _ =>
  (θ_run defs _ _).mono (fun _ h => ⟨fun c => (h c).2.2.2, funext fun g => (no_sem g.2).elim⟩) (run m ρ)

end Cert.ReferenceIdeal.Value

end
-- ==== Proof.Hadamard.lean ====
module

public import proofs.«01_k».proof.Proof.Gen.KernelIdeal.Loops
public import Idealize.ShloMosaic.PureOps.Ideal
public import Idealize.ShloMosaic.Lib.Pipeline.Value
public import Idealize.ShloMosaic.Lib.Ring

@[expose] public section

set_option maxRecDepth 16384

noncomputable section

namespace Cert.KernelIdeal.R0

open Cert.KernelIdeal Cert.KernelIdeal.Gen
open Idealize.ShloMosaic Idealize.ShloMosaic.TcCoe

/-- Sum or difference of two rows of values. -/
def pm (b : Bool) (x y : FVec Ideal S32x128 .f32) : FVec Ideal S32x128 .f32 := cond b (subf x y) (addf x y)

/-- The butterfly of eight, output `k`: three stages of sums and differences. -/
def bf (v : ℕ → FVec Ideal S32x128 .f32) (k : ℕ) : FVec Ideal S32x128 .f32 :=
  pm (k.testBit 2) (pm (k.testBit 1) (pm (k.testBit 0) (v 0) (v 1)) (pm (k.testBit 0) (v 2) (v 3)))
    (pm (k.testBit 1) (pm (k.testBit 0) (v 4) (v 5)) (pm (k.testBit 0) (v 6) (v 7)))

/-- The index `(row, column)` of a block of 64 rows. -/
def ix (r c : ℕ) : S64x8192.Idx := fun a => match a with
  | 0 => ⟨r % 64, Nat.mod_lt _ (by decide)⟩
  | 1 => ⟨c % 8192, Nat.mod_lt _ (by decide)⟩

/-- Head `h` of row group `k` of the block. -/
def xS (x0 : Vec Ideal S64x8192 .bf16) (k h : ℕ) : Vec Ideal S32x128 .bf16 := fun i => x0 (ix (32 * k + (i 0).val) (128 * h + (i 1).val))

/-- The same head, widened. -/
def xF (x0 : Vec Ideal S64x8192 .bf16) (k h : ℕ) : FVec Ideal S32x128 .f32 := extf .f32 (xS x0 k h) bitsLt_bf16_f32

/-- The first phase: eight butterflies, each over eight consecutive heads. -/
def S1 (x0 : Vec Ideal S64x8192 .bf16) (k h : ℕ) : FVec Ideal S32x128 .f32 := bf (fun j => xF x0 k (8 * (h / 8) + j)) (h % 8)

/-- The second phase: eight butterflies, each over eight heads a stride of eight apart. -/
def S2 (x0 : Vec Ideal S64x8192 .bf16) (k h : ℕ) : FVec Ideal S32x128 .f32 := bf (fun j => S1 x0 k (8 * j + h % 8)) (h / 8)

/-- The scratch after `c` butterflies of the second phase. -/
def G (x0 : Vec Ideal S64x8192 .bf16) (k c : ℕ) : Vec Ideal S32x8192 .f32 := fun y =>
  (if ((y 1).val / 128) % 8 < c then S2 x0 k ((y 1).val / 128) else S1 x0 k ((y 1).val / 128))
    (fun a => match a with | 0 => ⟨(y 0).val, (y 0).isLt⟩ | 1 => ⟨(y 1).val % 128, Nat.mod_lt _ (by decide)⟩)

theorem idx_eq {n : ℕ} (inb : ∀ a, (![0, n] : Fin 2 → ℕ) a + S32x128.size a ≤ S32x8192.size a) (x : S32x128.Idx) (hn : n % 128 = 0) :
    (((Rect.unit (s := S32x8192) ![0, n] S32x128.size inb).idx x 1).val / 128 = n / 128)
    ∧ (((Rect.unit (s := S32x8192) ![0, n] S32x128.size inb).idx x 1).val % 128 = (x 1).val)
    ∧ (((Rect.unit (s := S32x8192) ![0, n] S32x128.size inb).idx x 0).val = (x 0).val) := by
  have h1 : (x 1).val < 128 := (x 1).isLt
  have e1 : ((Rect.unit (s := S32x8192) ![0, n] S32x128.size inb).idx x 1).val = n + 1 * (x 1).val := rfl
  have e0 : ((Rect.unit (s := S32x8192) ![0, n] S32x128.size inb).idx x 0).val = 0 + 1 * (x 0).val := rfl
  refine ⟨by rw [e1]; omega, by rw [e1]; omega, by rw [e0]; omega⟩

theorem G_idx (x0 : Vec Ideal S64x8192 .bf16) (k c : ℕ) {n : ℕ} (inb : ∀ a, (![0, n] : Fin 2 → ℕ) a + S32x128.size a ≤ S32x8192.size a)
    (x : S32x128.Idx) (hn : n % 128 = 0) :
    G x0 k c ((Rect.unit (s := S32x8192) ![0, n] S32x128.size inb).idx x)
      = (if (n / 128) % 8 < c then S2 x0 k (n / 128) else S1 x0 k (n / 128)) x := by
  obtain ⟨h1, h2, h3⟩ := idx_eq inb x hn
  unfold G
  rw [h1]
  refine congrArg (if n / 128 % 8 < c then S2 x0 k (n / 128) else S1 x0 k (n / 128)) (funext fun a => ?_)
  match a with
  | 0 => exact Fin.ext h3
  | 1 => exact Fin.ext h2

theorem G_emb (x0 : Vec Ideal S64x8192 .bf16) (k c : ℕ) {n : ℕ} (inb : ∀ a, (![0, n] : Fin 2 → ℕ) a + S32x128.size a ≤ S32x8192.size a)
    (x : S32x128.Idx) (hn : n % 128 = 0) :
    G x0 k c ((Rect.unit (s := S32x8192) ![0, n] S32x128.size inb).emb x)
      = (if (n / 128) % 8 < c then S2 x0 k (n / 128) else S1 x0 k (n / 128)) x := G_idx x0 k c inb x hn

/-- A piece whose payload is a head's values restricts the scratch's contents. -/
theorem piece {x0 : Vec Ideal S64x8192 .bf16} {k c n : ℕ} {inb : ∀ a, (![0, n] : Fin 2 → ℕ) a + S32x128.size a ≤ S32x8192.size a}
    {v : FVec Ideal S32x128 .f32} (hn : n % 128 = 0) (hv : v = if (n / 128) % 8 < c then S2 x0 k (n / 128) else S1 x0 k (n / 128)) :
    ∀ x, (⟨Rect.unit (s := S32x8192) ![0, n] S32x128.size inb, v⟩ : View.Piece (Elt Ideal) S32x8192 .f32).2 x
      = G x0 k c ((⟨Rect.unit (s := S32x8192) ![0, n] S32x128.size inb, v⟩ : View.Piece (Elt Ideal) S32x8192 .f32).1.emb x) :=
  fun x => (congrFun hv x).trans (G_emb x0 k c inb x hn).symm

variable (arg1 : Memref sig .tc .vmem S64x8192 .bf16) (harg1 : arg1.IsWhole) (x0 : Vec Ideal S64x8192 .bf16) (k : Fin k0_t1_loop.trips)

theorem rdX {off : Fin 2 → ℕ} {n : ℕ} (h : off = ![32 * k.val, n]) (inb : ∀ a, off a + S32x128.size a ≤ S64x8192.size a) (hn : n % 128 = 0 := by rfl) :
    View.readAt (Elt Ideal) arg1.view (Rect.unit (s := S64x8192) off S32x128.size inb).toLoadRect (harg1.unread x0)
      = xS x0 k.val (n / 128) := by
  subst h
  rw [View.readAt_eq_ld, harg1.read_unread]
  funext x
  refine congrArg x0 (funext fun a => ?_)
  have h0 : (x 0).val < 32 := (x 0).isLt
  have h1 : (x 1).val < 128 := (x 1).isLt
  have hk : k.val < 2 := k.isLt
  have hb := inb 1
  match a with
  | 0 => exact Fin.ext (show 32 * k.val + 1 * (x 0).val = (32 * k.val + (x 0).val) % 64 by omega)
  | 1 => exact Fin.ext (show n + 1 * (x 1).val = (128 * (n / 128) + (x 1).val) % 8192 by
      have : n + 128 ≤ 8192 := hb
      omega)

theorem HW64 : ∀ p ∈ trip_k0_t1.sl.HW_arg5_64 (F := Ideal) arg1 (harg1.unread x0) k, ∀ x, p.2 x = G x0 k.val 0 (p.1.emb x) := by
  unfold trip_k0_t1.sl.HW_arg5_64
  simp -proj only [List.forall_mem_cons, List.not_mem_nil, false_implies, implies_true, and_true,
    trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77,
    k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290,
    rdX arg1 harg1 x0 k (k0_off1_eq k), rdX arg1 harg1 x0 k (k0_off2_eq k), rdX arg1 harg1 x0 k (k0_off3_eq k), rdX arg1 harg1 x0 k (k0_off4_eq k), rdX arg1 harg1 x0 k (k0_off5_eq k), rdX arg1 harg1 x0 k (k0_off6_eq k), rdX arg1 harg1 x0 k (k0_off7_eq k), rdX arg1 harg1 x0 k (k0_off8_eq k), rdX arg1 harg1 x0 k (k0_off9_eq k), rdX arg1 harg1 x0 k (k0_off10_eq k), rdX arg1 harg1 x0 k (k0_off11_eq k), rdX arg1 harg1 x0 k (k0_off12_eq k), rdX arg1 harg1 x0 k (k0_off13_eq k), rdX arg1 harg1 x0 k (k0_off14_eq k), rdX arg1 harg1 x0 k (k0_off15_eq k), rdX arg1 harg1 x0 k (k0_off16_eq k), rdX arg1 harg1 x0 k (k0_off17_eq k), rdX arg1 harg1 x0 k (k0_off18_eq k), rdX arg1 harg1 x0 k (k0_off19_eq k), rdX arg1 harg1 x0 k (k0_off20_eq k), rdX arg1 harg1 x0 k (k0_off21_eq k), rdX arg1 harg1 x0 k (k0_off22_eq k), rdX arg1 harg1 x0 k (k0_off23_eq k), rdX arg1 harg1 x0 k (k0_off24_eq k), rdX arg1 harg1 x0 k (k0_off25_eq k), rdX arg1 harg1 x0 k (k0_off26_eq k), rdX arg1 harg1 x0 k (k0_off27_eq k), rdX arg1 harg1 x0 k (k0_off28_eq k), rdX arg1 harg1 x0 k (k0_off29_eq k), rdX arg1 harg1 x0 k (k0_off30_eq k), rdX arg1 harg1 x0 k (k0_off31_eq k), rdX arg1 harg1 x0 k (k0_off32_eq k), rdX arg1 harg1 x0 k (k0_off33_eq k), rdX arg1 harg1 x0 k (k0_off34_eq k), rdX arg1 harg1 x0 k (k0_off35_eq k), rdX arg1 harg1 x0 k (k0_off36_eq k), rdX arg1 harg1 x0 k (k0_off37_eq k), rdX arg1 harg1 x0 k (k0_off38_eq k), rdX arg1 harg1 x0 k (k0_off39_eq k), rdX arg1 harg1 x0 k (k0_off40_eq k), rdX arg1 harg1 x0 k (k0_off41_eq k), rdX arg1 harg1 x0 k (k0_off42_eq k), rdX arg1 harg1 x0 k (k0_off43_eq k), rdX arg1 harg1 x0 k (k0_off44_eq k), rdX arg1 harg1 x0 k (k0_off45_eq k), rdX arg1 harg1 x0 k (k0_off46_eq k), rdX arg1 harg1 x0 k (k0_off47_eq k), rdX arg1 harg1 x0 k (k0_off48_eq k), rdX arg1 harg1 x0 k (k0_off49_eq k), rdX arg1 harg1 x0 k (k0_off50_eq k), rdX arg1 harg1 x0 k (k0_off51_eq k), rdX arg1 harg1 x0 k (k0_off52_eq k), rdX arg1 harg1 x0 k (k0_off53_eq k), rdX arg1 harg1 x0 k (k0_off54_eq k), rdX arg1 harg1 x0 k (k0_off55_eq k), rdX arg1 harg1 x0 k (k0_off56_eq k), rdX arg1 harg1 x0 k (k0_off57_eq k), rdX arg1 harg1 x0 k (k0_off58_eq k), rdX arg1 harg1 x0 k (k0_off59_eq k), rdX arg1 harg1 x0 k (k0_off60_eq k), rdX arg1 harg1 x0 k (k0_off61_eq k), rdX arg1 harg1 x0 k (k0_off62_eq k), rdX arg1 harg1 x0 k (k0_off63_eq k), rdX arg1 harg1 x0 k (k0_off64_eq k), shapeCast_self]
  repeat' refine And.intro ?_ ?_
  all_goals exact piece rfl rfl

/-- The columns of head `8 * j + c`. -/
theorem inbC (n : ℕ) (h : n ≤ 8064) : ∀ a, (![0, n] : Fin 2 → ℕ) a + S32x128.size a ≤ S32x8192.size a := fun a =>
  match a with
  | 0 => (by decide : 0 + 32 ≤ 32)
  | 1 => (by omega : n + 128 ≤ 8192)

/-- One piece on top of a list agreeing with a function outside the piece's head. -/
theorem canon_head {x0 : Vec Ideal S64x8192 .bf16} {k c n : ℕ} {inb : ∀ a, (![0, n] : Fin 2 → ℕ) a + S32x128.size a ≤ S32x8192.size a}
    {v : FVec Ideal S32x128 .f32} {L : List (View.Piece (Elt Ideal) S32x8192 .f32)} (hn : n % 128 = 0) (hc : (n / 128) % 8 < c) (hv : v = S2 x0 k (n / 128))
    (y : S32x8192.Idx) (hL : (y 1).val / 128 ≠ n / 128 → View.canon L y = G x0 k c y) :
    View.canon (⟨Rect.unit (s := S32x8192) ![0, n] S32x128.size inb, v⟩ :: L) y = G x0 k c y := by
  by_cases hy : y ∈ (Rect.unit (s := S32x8192) ![0, n] S32x128.size inb).set
  · obtain ⟨x, rfl⟩ := (Rect.unit (s := S32x8192) ![0, n] S32x128.size inb).exists_idx_of_mem hy
    refine (View.canon_cons_emb _ v L x).trans ?_
    rw [G_idx x0 k c inb x hn, if_pos hc, hv]
  · refine (View.canon_cons_of_not_mem (⟨_, v⟩ : View.Piece (Elt Ideal) S32x8192 .f32) L hy).trans (hL fun h => hy ?_)
    refine Rect.mem_set_unit.mpr fun a => ?_
    have h0 : (y 0).val < 32 := (y 0).isLt
    match a with
    | 0 => exact (show 0 ≤ (y 0).val ∧ (y 0).val < 0 + 32 by omega)
    | 1 => exact (show n ≤ (y 1).val ∧ (y 1).val < n + 128 by omega)

theorem G_succ (x0 : Vec Ideal S64x8192 .bf16) (k c : ℕ) (y : S32x8192.Idx) (h : (y 1).val / 128 % 8 ≠ c) : G x0 k (c + 1) y = G x0 k c y := by
  unfold G
  have e : ((y 1).val / 128 % 8 < c + 1) = ((y 1).val / 128 % 8 < c) := propext ⟨fun _ => by omega, fun _ => by omega⟩
  simp only [e]

/-- One butterfly of the second phase: eight stores, a stride of eight heads apart, over the scratch before it. -/
theorem stage {x0 : Vec Ideal S64x8192 .bf16} {k : ℕ} (c : ℕ) (hc : c < 8) {L : List (View.Piece (Elt Ideal) S32x8192 .f32)} (hL : View.canon L = G x0 k c)
    {v0 v1 v2 v3 v4 v5 v6 v7 : FVec Ideal S32x128 .f32}
    {i0 i1 i2 i3 i4 i5 i6 i7}
    (h0 : v0 = S2 x0 k c) (h1 : v1 = S2 x0 k (8 + c)) (h2 : v2 = S2 x0 k (16 + c)) (h3 : v3 = S2 x0 k (24 + c))
    (h4 : v4 = S2 x0 k (32 + c)) (h5 : v5 = S2 x0 k (40 + c)) (h6 : v6 = S2 x0 k (48 + c)) (h7 : v7 = S2 x0 k (56 + c)) :
    View.canon (Val := Elt Ideal) (⟨Rect.unit (s := S32x8192) ![0, 128 * (56 + c)] S32x128.size i7, v7⟩ :: ⟨Rect.unit (s := S32x8192) ![0, 128 * (48 + c)] S32x128.size i6, v6⟩
      :: ⟨Rect.unit (s := S32x8192) ![0, 128 * (40 + c)] S32x128.size i5, v5⟩ :: ⟨Rect.unit (s := S32x8192) ![0, 128 * (32 + c)] S32x128.size i4, v4⟩
      :: ⟨Rect.unit (s := S32x8192) ![0, 128 * (24 + c)] S32x128.size i3, v3⟩ :: ⟨Rect.unit (s := S32x8192) ![0, 128 * (16 + c)] S32x128.size i2, v2⟩
      :: ⟨Rect.unit (s := S32x8192) ![0, 128 * (8 + c)] S32x128.size i1, v1⟩ :: ⟨Rect.unit (s := S32x8192) ![0, 128 * c] S32x128.size i0, v0⟩ :: L)
      = G x0 k (c + 1) := by
  funext y
  have e (n : ℕ) : 128 * n / 128 = n := Nat.mul_div_cancel_left n (by decide)
  refine canon_head (Nat.mul_mod_right 128 _) (by rw [e]; omega) (by rw [e]; exact h7) y fun g7 => ?_
  refine canon_head (Nat.mul_mod_right 128 _) (by rw [e]; omega) (by rw [e]; exact h6) y fun g6 => ?_
  refine canon_head (Nat.mul_mod_right 128 _) (by rw [e]; omega) (by rw [e]; exact h5) y fun g5 => ?_
  refine canon_head (Nat.mul_mod_right 128 _) (by rw [e]; omega) (by rw [e]; exact h4) y fun g4 => ?_
  refine canon_head (Nat.mul_mod_right 128 _) (by rw [e]; omega) (by rw [e]; exact h3) y fun g3 => ?_
  refine canon_head (Nat.mul_mod_right 128 _) (by rw [e]; omega) (by rw [e]; exact h2) y fun g2 => ?_
  refine canon_head (Nat.mul_mod_right 128 _) (by rw [e]; omega) (by rw [e]; exact h1) y fun g1 => ?_
  refine canon_head (Nat.mul_mod_right 128 _) (by rw [e]; omega) (by rw [e]; exact h0) y fun g0 => ?_
  rw [e] at g0 g1 g2 g3 g4 g5 g6 g7
  have hy : (y 1).val < 8192 := (y 1).isLt
  rw [G_succ x0 k c y (by omega), hL]

variable (arg5 : Memref sig .tc .vmem S32x8192 .f32)

/-- A read of a head back from the scratch. -/
theorem rdZ {L : List (View.Piece (Elt Ideal) S32x8192 .f32)} {x0 : Vec Ideal S64x8192 .bf16} {k c : ℕ} (h : View.canon L = G x0 k c) {n : ℕ}
    (inb : ∀ a, (![0, n] : Fin 2 → ℕ) a + S32x128.size a ≤ S32x8192.size a) (hn : n % 128 = 0) :
    arg5.view.readCov L (Rect.unit (s := S32x8192) ![0, n] S32x128.size inb).toLoadRect
      = if (n / 128) % 8 < c then S2 x0 k (n / 128) else S1 x0 k (n / 128) := by
  rw [View.readCov_eq_canon', h]
  exact funext fun x => G_idx x0 k c inb x hn

theorem mem64 (y : S32x8192.Idx) : ∃ p ∈ trip_k0_t1.sl.HW_arg5_64 (F := Ideal) arg1 (harg1.unread x0) k, y ∈ p.1.set :=
  View.cover_of_tiledL (trip_k0_t1.sl.HW_arg5_64 (F := Ideal) arg1 (harg1.unread x0) k) S32x128.size (by sl_kernel_rfl) y

theorem canon0 : View.canon (trip_k0_t1.sl.HW_arg5_64 (F := Ideal) arg1 (harg1.unread x0) k) = G x0 k.val 0 :=
  funext fun y => View.canon_apply_of_pieces _ _ (HW64 arg1 harg1 x0 k) y (mem64 arg1 harg1 x0 k y)

theorem canon1 : View.canon (trip_k0_t1.sl.HW_arg5_72 (F := Ideal) arg1 arg5 (harg1.unread x0) k) = G x0 k.val 1 := by
  have h := canon0 arg1 harg1 x0 k
  unfold trip_k0_t1.sl.HW_arg5_72 trip_k0_t1.sl.HW_arg5_65
  refine stage 0 (by decide) h ?_ ?_ ?_ ?_ ?_ ?_ ?_ ?_
  all_goals
    simp -proj only [trip_k0_t1.sl.r_78, trip_k0_t1.sl.r_79, trip_k0_t1.sl.r_80, trip_k0_t1.sl.r_81, trip_k0_t1.sl.r_82, trip_k0_t1.sl.r_83, trip_k0_t1.sl.r_84, trip_k0_t1.sl.v643, trip_k0_t1.sl.v644, trip_k0_t1.sl.v645, trip_k0_t1.sl.v646, trip_k0_t1.sl.v647, trip_k0_t1.sl.v648, trip_k0_t1.sl.v649, trip_k0_t1.sl.v650,
      k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay317, k0_pay318, k0_pay319, k0_pay320, k0_pay321, k0_pay322, k0_pay323, rdZ arg5 h, Nat.reduceMod, Nat.reduceDiv, Nat.reduceMul, Nat.reduceAdd, Nat.reduceLT, if_true, if_false, ite_true, ite_false, Nat.lt_irrefl, decide_true, decide_false, shapeCast_self]
    rfl

theorem canon2 : View.canon (trip_k0_t1.sl.HW_arg5_80 (F := Ideal) arg1 arg5 (harg1.unread x0) k) = G x0 k.val 2 := by
  have h := canon1 arg1 harg1 x0 k arg5
  unfold trip_k0_t1.sl.HW_arg5_80 trip_k0_t1.sl.HW_arg5_74
  refine stage 1 (by decide) h ?_ ?_ ?_ ?_ ?_ ?_ ?_ ?_
  all_goals
    simp -proj only [trip_k0_t1.sl.r_87, trip_k0_t1.sl.r_88, trip_k0_t1.sl.r_89, trip_k0_t1.sl.r_90, trip_k0_t1.sl.r_91, trip_k0_t1.sl.r_92, trip_k0_t1.sl.v715, trip_k0_t1.sl.v716, trip_k0_t1.sl.v717, trip_k0_t1.sl.v718, trip_k0_t1.sl.v719, trip_k0_t1.sl.v720, trip_k0_t1.sl.v721, trip_k0_t1.sl.v722,
      k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay352, k0_pay353, k0_pay354, k0_pay355, k0_pay356, k0_pay357, rdZ arg5 h, Nat.reduceMod, Nat.reduceDiv, Nat.reduceMul, Nat.reduceAdd, Nat.reduceLT, if_true, if_false, ite_true, ite_false, Nat.lt_irrefl, decide_true, decide_false, shapeCast_self]
    rfl

theorem canon3 : View.canon (trip_k0_t1.sl.HW_arg5_88 (F := Ideal) arg1 arg5 (harg1.unread x0) k) = G x0 k.val 3 := by
  have h := canon2 arg1 harg1 x0 k arg5
  unfold trip_k0_t1.sl.HW_arg5_88 trip_k0_t1.sl.HW_arg5_83
  refine stage 2 (by decide) h ?_ ?_ ?_ ?_ ?_ ?_ ?_ ?_
  all_goals
    simp -proj only [trip_k0_t1.sl.r_95, trip_k0_t1.sl.r_96, trip_k0_t1.sl.r_97, trip_k0_t1.sl.r_98, trip_k0_t1.sl.r_99, trip_k0_t1.sl.v787, trip_k0_t1.sl.v788, trip_k0_t1.sl.v789, trip_k0_t1.sl.v790, trip_k0_t1.sl.v791, trip_k0_t1.sl.v792, trip_k0_t1.sl.v793, trip_k0_t1.sl.v794,
      k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay387, k0_pay388, k0_pay389, k0_pay390, k0_pay391, rdZ arg5 h, Nat.reduceMod, Nat.reduceDiv, Nat.reduceMul, Nat.reduceAdd, Nat.reduceLT, if_true, if_false, ite_true, ite_false, Nat.lt_irrefl, decide_true, decide_false, shapeCast_self]
    rfl

theorem canon4 : View.canon (trip_k0_t1.sl.HW_arg5_96 (F := Ideal) arg1 arg5 (harg1.unread x0) k) = G x0 k.val 4 := by
  have h := canon3 arg1 harg1 x0 k arg5
  unfold trip_k0_t1.sl.HW_arg5_96 trip_k0_t1.sl.HW_arg5_92
  refine stage 3 (by decide) h ?_ ?_ ?_ ?_ ?_ ?_ ?_ ?_
  all_goals
    simp -proj only [trip_k0_t1.sl.r_102, trip_k0_t1.sl.r_103, trip_k0_t1.sl.r_104, trip_k0_t1.sl.r_105, trip_k0_t1.sl.v859, trip_k0_t1.sl.v860, trip_k0_t1.sl.v861, trip_k0_t1.sl.v862, trip_k0_t1.sl.v863, trip_k0_t1.sl.v864, trip_k0_t1.sl.v865, trip_k0_t1.sl.v866,
      k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay422, k0_pay423, k0_pay424, k0_pay425, rdZ arg5 h, Nat.reduceMod, Nat.reduceDiv, Nat.reduceMul, Nat.reduceAdd, Nat.reduceLT, if_true, if_false, ite_true, ite_false, Nat.lt_irrefl, decide_true, decide_false, shapeCast_self]
    rfl

theorem canon5 : View.canon (trip_k0_t1.sl.HW_arg5_104 (F := Ideal) arg1 arg5 (harg1.unread x0) k) = G x0 k.val 5 := by
  have h := canon4 arg1 harg1 x0 k arg5
  unfold trip_k0_t1.sl.HW_arg5_104 trip_k0_t1.sl.HW_arg5_101
  refine stage 4 (by decide) h ?_ ?_ ?_ ?_ ?_ ?_ ?_ ?_
  all_goals
    simp -proj only [trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.v931, trip_k0_t1.sl.v932, trip_k0_t1.sl.v933, trip_k0_t1.sl.v934, trip_k0_t1.sl.v935, trip_k0_t1.sl.v936, trip_k0_t1.sl.v937, trip_k0_t1.sl.v938,
      k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay457, k0_pay458, k0_pay459, rdZ arg5 h, Nat.reduceMod, Nat.reduceDiv, Nat.reduceMul, Nat.reduceAdd, Nat.reduceLT, if_true, if_false, ite_true, ite_false, Nat.lt_irrefl, decide_true, decide_false, shapeCast_self]
    rfl

theorem canon6 : View.canon (trip_k0_t1.sl.HW_arg5_112 (F := Ideal) arg1 arg5 (harg1.unread x0) k) = G x0 k.val 6 := by
  have h := canon5 arg1 harg1 x0 k arg5
  unfold trip_k0_t1.sl.HW_arg5_112 trip_k0_t1.sl.HW_arg5_110
  refine stage 5 (by decide) h ?_ ?_ ?_ ?_ ?_ ?_ ?_ ?_
  all_goals
    simp -proj only [trip_k0_t1.sl.r_120, trip_k0_t1.sl.r_121, trip_k0_t1.sl.r_122, trip_k0_t1.sl.r_123, trip_k0_t1.sl.r_124, trip_k0_t1.sl.r_125, trip_k0_t1.sl.r_126, trip_k0_t1.sl.r_127, trip_k0_t1.sl.r_128, trip_k0_t1.sl.r_129, trip_k0_t1.sl.r_130, trip_k0_t1.sl.v1003, trip_k0_t1.sl.v1004, trip_k0_t1.sl.v1005, trip_k0_t1.sl.v1006, trip_k0_t1.sl.v1007, trip_k0_t1.sl.v1008, trip_k0_t1.sl.v1009, trip_k0_t1.sl.v1010,
      k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay492, k0_pay493, rdZ arg5 h, Nat.reduceMod, Nat.reduceDiv, Nat.reduceMul, Nat.reduceAdd, Nat.reduceLT, if_true, if_false, ite_true, ite_false, Nat.lt_irrefl, decide_true, decide_false, shapeCast_self]
    rfl

theorem canon7 : View.canon (trip_k0_t1.sl.HW_arg5_120 (F := Ideal) arg1 arg5 (harg1.unread x0) k) = G x0 k.val 7 := by
  have h := canon6 arg1 harg1 x0 k arg5
  unfold trip_k0_t1.sl.HW_arg5_120 trip_k0_t1.sl.HW_arg5_119
  refine stage 6 (by decide) h ?_ ?_ ?_ ?_ ?_ ?_ ?_ ?_
  all_goals
    simp -proj only [trip_k0_t1.sl.r_133, trip_k0_t1.sl.r_134, trip_k0_t1.sl.r_135, trip_k0_t1.sl.r_136, trip_k0_t1.sl.r_137, trip_k0_t1.sl.r_138, trip_k0_t1.sl.r_139, trip_k0_t1.sl.r_140, trip_k0_t1.sl.r_141, trip_k0_t1.sl.r_142, trip_k0_t1.sl.v1075, trip_k0_t1.sl.v1076, trip_k0_t1.sl.v1077, trip_k0_t1.sl.v1078, trip_k0_t1.sl.v1079, trip_k0_t1.sl.v1080, trip_k0_t1.sl.v1081, trip_k0_t1.sl.v1082,
      k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay527, rdZ arg5 h, Nat.reduceMod, Nat.reduceDiv, Nat.reduceMul, Nat.reduceAdd, Nat.reduceLT, if_true, if_false, ite_true, ite_false, Nat.lt_irrefl, decide_true, decide_false, shapeCast_self]
    rfl

theorem canon8 : View.canon (trip_k0_t1.sl.HW_arg5_128 (F := Ideal) arg1 arg5 (harg1.unread x0) k) = G x0 k.val 8 := by
  have h := canon7 arg1 harg1 x0 k arg5
  unfold trip_k0_t1.sl.HW_arg5_128
  refine stage 7 (by decide) h ?_ ?_ ?_ ?_ ?_ ?_ ?_ ?_
  all_goals
    simp -proj only [trip_k0_t1.sl.r_145, trip_k0_t1.sl.r_146, trip_k0_t1.sl.r_147, trip_k0_t1.sl.r_148, trip_k0_t1.sl.r_149, trip_k0_t1.sl.r_150, trip_k0_t1.sl.r_151, trip_k0_t1.sl.v1147, trip_k0_t1.sl.v1148, trip_k0_t1.sl.v1149, trip_k0_t1.sl.v1150, trip_k0_t1.sl.v1151, trip_k0_t1.sl.v1152, trip_k0_t1.sl.v1153, trip_k0_t1.sl.v1154,
      k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay555, k0_pay556, k0_pay557, k0_pay558, k0_pay559, k0_pay560, k0_pay561, rdZ arg5 h, Nat.reduceMod, Nat.reduceDiv, Nat.reduceMul, Nat.reduceAdd, Nat.reduceLT, if_true, if_false, ite_true, ite_false, Nat.lt_irrefl, decide_true, decide_false, shapeCast_self]
    rfl

end Cert.KernelIdeal.R0

end
-- ==== Proof.Quant.lean ====
module

public import proofs.«01_k».proof.Proof.Hadamard
public import Idealize.ShloMosaic.PureOps.Ideal
public import Idealize.ShloMosaic.Lib.Pipeline.Value
public import Idealize.ShloMosaic.Lib.Ring

@[expose] public section

set_option maxRecDepth 16384

noncomputable section

namespace Cert.KernelIdeal.R0

open Cert.KernelIdeal Cert.KernelIdeal.Gen
open Idealize.ShloMosaic Idealize.ShloMosaic.TcCoe

/-- The running maximum of the absolute values, taken head by head in the order of the second phase. -/
def mxV (x0 : Vec Ideal S64x8192 .bf16) (k : ℕ) : FVec Ideal S32x128 .f32 :=
  (List.range 64).foldl (fun m t => maximumf m (absf (S2 x0 k (8 * (t % 8) + t / 8)))) (broadcast S32x128 (Scalar.ofBits .f32 0x00000000#32))

/-- The maximum over the lanes. -/
def mxR (x0 : Vec Ideal S64x8192 .bf16) (k : ℕ) : FVec Ideal S32x1 .f32 :=
  shapeCast S32x1 (multiReduction .maximumf [1] S32 (mxV x0 k) 0xFF800000#32 reduces_S32x128_S32 (.inl rfl) rfl) shapeCasts_S32_S32x1

/-- The scale of each row of the group. -/
def scV (x0 : Vec Ideal S64x8192 .bf16) (k : ℕ) : FVec Ideal S32x1 .f32 := k0_pay563 (mxR x0 k)

/-- The codes of head `h`. -/
def cdV (x0 : Vec Ideal S64x8192 .bf16) (k h : ℕ) : IVec S32x128 8 :=
  fptosi 8 (minimumf (broadcast S32x128 (Scalar.ofBits .f32 0x40E00000#32)) (maximumf (broadcast S32x128 (Scalar.ofBits .f32 0xC0E00000#32))
    (roundeven (divf (S2 x0 k h) (k0_pay564 (mxR x0 k))))))

variable (arg1 : Memref sig .tc .vmem S64x8192 .bf16) (harg1 : arg1.IsWhole) (x0 : Vec Ideal S64x8192 .bf16) (k : Fin k0_t1_loop.trips)
  (arg5 : Memref sig .tc .vmem S32x8192 .f32)

theorem mx_eq : trip_k0_t1.sl.r_153 (F := Ideal) arg1 arg5 (harg1.unread x0) k = mxR x0 k.val := by
  simp -proj only [trip_k0_t1.sl.cst, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.r_118, trip_k0_t1.sl.r_119, trip_k0_t1.sl.r_120, trip_k0_t1.sl.r_121, trip_k0_t1.sl.r_122, trip_k0_t1.sl.r_123, trip_k0_t1.sl.r_124, trip_k0_t1.sl.r_125, trip_k0_t1.sl.r_126, trip_k0_t1.sl.r_127, trip_k0_t1.sl.r_128, trip_k0_t1.sl.r_129, trip_k0_t1.sl.r_130, trip_k0_t1.sl.r_131, trip_k0_t1.sl.r_132, trip_k0_t1.sl.r_133, trip_k0_t1.sl.r_134, trip_k0_t1.sl.r_135, trip_k0_t1.sl.r_136, trip_k0_t1.sl.r_137, trip_k0_t1.sl.r_138, trip_k0_t1.sl.r_139, trip_k0_t1.sl.r_140, trip_k0_t1.sl.r_141, trip_k0_t1.sl.r_142, trip_k0_t1.sl.r_143, trip_k0_t1.sl.r_144, trip_k0_t1.sl.r_145, trip_k0_t1.sl.r_146, trip_k0_t1.sl.r_147, trip_k0_t1.sl.r_148, trip_k0_t1.sl.r_149, trip_k0_t1.sl.r_150, trip_k0_t1.sl.r_151, trip_k0_t1.sl.r_152, trip_k0_t1.sl.r_153, trip_k0_t1.sl.v643, trip_k0_t1.sl.v644, trip_k0_t1.sl.v645, trip_k0_t1.sl.v646, trip_k0_t1.sl.v647, trip_k0_t1.sl.v648, trip_k0_t1.sl.v649, trip_k0_t1.sl.v650, trip_k0_t1.sl.v715, trip_k0_t1.sl.v716, trip_k0_t1.sl.v717, trip_k0_t1.sl.v718, trip_k0_t1.sl.v719, trip_k0_t1.sl.v720, trip_k0_t1.sl.v721, trip_k0_t1.sl.v722, trip_k0_t1.sl.v787, trip_k0_t1.sl.v788, trip_k0_t1.sl.v789, trip_k0_t1.sl.v790, trip_k0_t1.sl.v791, trip_k0_t1.sl.v792, trip_k0_t1.sl.v793, trip_k0_t1.sl.v794, trip_k0_t1.sl.v859, trip_k0_t1.sl.v860, trip_k0_t1.sl.v861, trip_k0_t1.sl.v862, trip_k0_t1.sl.v863, trip_k0_t1.sl.v864, trip_k0_t1.sl.v865, trip_k0_t1.sl.v866, trip_k0_t1.sl.v931, trip_k0_t1.sl.v932, trip_k0_t1.sl.v933, trip_k0_t1.sl.v934, trip_k0_t1.sl.v935, trip_k0_t1.sl.v936, trip_k0_t1.sl.v937, trip_k0_t1.sl.v938, trip_k0_t1.sl.v1003, trip_k0_t1.sl.v1004, trip_k0_t1.sl.v1005, trip_k0_t1.sl.v1006, trip_k0_t1.sl.v1007, trip_k0_t1.sl.v1008, trip_k0_t1.sl.v1009, trip_k0_t1.sl.v1010, trip_k0_t1.sl.v1075, trip_k0_t1.sl.v1076, trip_k0_t1.sl.v1077, trip_k0_t1.sl.v1078, trip_k0_t1.sl.v1079, trip_k0_t1.sl.v1080, trip_k0_t1.sl.v1081, trip_k0_t1.sl.v1082, trip_k0_t1.sl.v1147, trip_k0_t1.sl.v1148, trip_k0_t1.sl.v1149, trip_k0_t1.sl.v1150, trip_k0_t1.sl.v1151, trip_k0_t1.sl.v1152, trip_k0_t1.sl.v1153, trip_k0_t1.sl.v1154,
    k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay316, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay351, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay386, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay421, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay456, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay491, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay526, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay554, k0_pay562, rdZ arg5 (canon0 arg1 harg1 x0 k), rdZ arg5 (canon1 arg1 harg1 x0 k arg5), rdZ arg5 (canon2 arg1 harg1 x0 k arg5), rdZ arg5 (canon3 arg1 harg1 x0 k arg5), rdZ arg5 (canon4 arg1 harg1 x0 k arg5), rdZ arg5 (canon5 arg1 harg1 x0 k arg5), rdZ arg5 (canon6 arg1 harg1 x0 k arg5), rdZ arg5 (canon7 arg1 harg1 x0 k arg5), Nat.reduceMod, Nat.reduceDiv, Nat.reduceMul, Nat.reduceAdd, Nat.reduceLT, if_true, if_false, ite_true, ite_false, Nat.lt_irrefl, decide_true, decide_false, shapeCast_self]
  rfl

/-- The position inside a head of an index of the block. -/
def jx (r c : ℕ) : S32x128.Idx := fun a => match a with
  | 0 => ⟨r % 32, Nat.mod_lt _ (by decide)⟩
  | 1 => ⟨c % 128, Nat.mod_lt _ (by decide)⟩

/-- The position inside a column of 32 scales. -/
def jx1 (r : ℕ) : S32x1.Idx := fun a => match a with
  | 0 => ⟨r % 32, Nat.mod_lt _ (by decide)⟩
  | 1 => ⟨0, by decide⟩

/-- A block put together from its heads, row group by row group. -/
def glue {α : Type} (V : ℕ → ℕ → S32x128.Idx → α) (y : S64x8192.Idx) : α := V ((y 0).val / 32) ((y 1).val / 128) (jx (y 0).val (y 1).val)

/-- The codes of head `h`, as values. -/
def cbV (x0 : Vec Ideal S64x8192 .bf16) (k h : ℕ) : FVec Ideal S32x128 .bf16 := sitofp .bf16 (cdV x0 k h)

/-- The block's scales. -/
def scG (x0 : Vec Ideal S64x8192 .bf16) : FVec Ideal S64x1 .f32 := fun y => scV x0 ((y 0).val / 32) (jx1 (y 0).val)

theorem pieceC {e : EltTy} (V : ℕ → ℕ → S32x128.Idx → Elt Ideal e) {off : Fin 2 → ℕ} {k n : ℕ} (h : off = ![32 * k, n])
    {inb : ∀ a, off a + S32x128.size a ≤ S64x8192.size a} {v : S32x128.Idx → Elt Ideal e} (hn : n % 128 = 0)
    {L : List (View.Piece (Elt Ideal) S64x8192 e)} (hL : ∀ p ∈ L, ∀ x, p.2 x = glue V (p.1.emb x)) (hv : v = V k (n / 128)) :
    ∀ p ∈ (⟨Rect.unit (s := S64x8192) off S32x128.size inb, v⟩ : View.Piece (Elt Ideal) S64x8192 e) :: L, ∀ x, p.2 x = glue V (p.1.emb x) := by
  refine List.forall_mem_cons.mpr ⟨fun x => ?_, hL⟩
  subst h hv
  have h0 : (x 0).val < 32 := (x 0).isLt
  have h1 : (x 1).val < 128 := (x 1).isLt
  have e0 : ((Rect.unit (s := S64x8192) ![32 * k, n] S32x128.size inb).emb x 0).val = 32 * k + 1 * (x 0).val := rfl
  have e1 : ((Rect.unit (s := S64x8192) ![32 * k, n] S32x128.size inb).emb x 1).val = n + 1 * (x 1).val := rfl
  show V k (n / 128) x = V _ _ _
  rw [e0, e1, show (32 * k + 1 * (x 0).val) / 32 = k by omega, show (n + 1 * (x 1).val) / 128 = n / 128 by omega]
  refine congrArg _ (funext fun a => Fin.ext ?_)
  match a with
  | 0 => exact (show (x 0).val = (32 * k + 1 * (x 0).val) % 32 by omega)
  | 1 => exact (show (x 1).val = (n + 1 * (x 1).val) % 128 by omega)

theorem pieceS (x0 : Vec Ideal S64x8192 .bf16) {off : Fin 2 → ℕ} {k : ℕ} (h : off = ![32 * k, 0])
    {inb : ∀ a, off a + S32x1.size a ≤ S64x1.size a} {v : S32x1.Idx → Elt Ideal .f32} (hv : v = scV x0 k) :
    ∀ x, (⟨Rect.unit (s := S64x1) off S32x1.size inb, v⟩ : View.Piece (Elt Ideal) S64x1 .f32).2 x
      = scG x0 ((⟨Rect.unit (s := S64x1) off S32x1.size inb, v⟩ : View.Piece (Elt Ideal) S64x1 .f32).1.emb x) := by
  intro x
  subst h hv
  have h0 : (x 0).val < 32 := (x 0).isLt
  have h1 : (x 1).val < 1 := (x 1).isLt
  have e0 : ((Rect.unit (s := S64x1) ![32 * k, 0] S32x1.size inb).emb x 0).val = 32 * k + 1 * (x 0).val := rfl
  show scV x0 k x = scV x0 _ _
  rw [e0, show (32 * k + 1 * (x 0).val) / 32 = k by omega]
  refine congrArg _ (funext fun a => Fin.ext ?_)
  match a with
  | 0 => exact (show (x 0).val = (32 * k + 1 * (x 0).val) % 32 by omega)
  | 1 => exact (show (x 1).val = 0 by omega)

variable (c : Dev nD) (i : grid0.Coords) (arg2 : Memref sig .tc .vmem S64x8192 .i8) (harg2 : arg2.IsWhole)
  (arg3 : Memref sig .tc .vmem S64x8192 .bf16) (harg3 : arg3.IsWhole) (arg4 : Memref sig .tc .vmem S64x1 .f32) (harg4 : arg4.IsWhole) (harg5 : arg5.IsWhole)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty)

/-- What one trip stores: the codes, the codes as values, the scales of its 32 rows. -/
theorem trip_codes : ∀ p ∈ (trip_k0_t1 (F := Ideal) Variants.none c none i arg1 harg1 arg2 harg2 arg3 harg3 arg4 harg4 arg5 harg5 (harg1.unread x0) k).1 f2 f3 f4 f5, ∀ x, p.2 x = glue (cdV x0) (p.1.emb x) := by
  unfold trip_k0_t1
  refine pieceC (e := .i8) (cdV x0) (k0_off64_eq k) (inb := k0_off64_inb k) rfl ?_ ?_
  refine pieceC (e := .i8) (cdV x0) (k0_off63_eq k) (inb := k0_off63_inb k) rfl ?_ ?_
  refine pieceC (e := .i8) (cdV x0) (k0_off62_eq k) (inb := k0_off62_inb k) rfl ?_ ?_
  refine pieceC (e := .i8) (cdV x0) (k0_off61_eq k) (inb := k0_off61_inb k) rfl ?_ ?_
  refine pieceC (e := .i8) (cdV x0) (k0_off60_eq k) (inb := k0_off60_inb k) rfl ?_ ?_
  refine pieceC (e := .i8) (cdV x0) (k0_off59_eq k) (inb := k0_off59_inb k) rfl ?_ ?_
  refine pieceC (e := .i8) (cdV x0) (k0_off58_eq k) (inb := k0_off58_inb k) rfl ?_ ?_
  refine pieceC (e := .i8) (cdV x0) (k0_off57_eq k) (inb := k0_off57_inb k) rfl ?_ ?_
  refine pieceC (e := .i8) (cdV x0) (k0_off56_eq k) (inb := k0_off56_inb k) rfl ?_ ?_
  refine pieceC (e := .i8) (cdV x0) (k0_off55_eq k) (inb := k0_off55_inb k) rfl ?_ ?_
  refine pieceC (e := .i8) (cdV x0) (k0_off54_eq k) (inb := k0_off54_inb k) rfl ?_ ?_
  refine pieceC (e := .i8) (cdV x0) (k0_off53_eq k) (inb := k0_off53_inb k) rfl ?_ ?_
  refine pieceC (e := .i8) (cdV x0) (k0_off52_eq k) (inb := k0_off52_inb k) rfl ?_ ?_
  refine pieceC (e := .i8) (cdV x0) (k0_off51_eq k) (inb := k0_off51_inb k) rfl ?_ ?_
  refine pieceC (e := .i8) (cdV x0) (k0_off50_eq k) (inb := k0_off50_inb k) rfl ?_ ?_
  refine pieceC (e := .i8) (cdV x0) (k0_off49_eq k) (inb := k0_off49_inb k) rfl ?_ ?_
  refine pieceC (e := .i8) (cdV x0) (k0_off48_eq k) (inb := k0_off48_inb k) rfl ?_ ?_
  refine pieceC (e := .i8) (cdV x0) (k0_off47_eq k) (inb := k0_off47_inb k) rfl ?_ ?_
  refine pieceC (e := .i8) (cdV x0) (k0_off46_eq k) (inb := k0_off46_inb k) rfl ?_ ?_
  refine pieceC (e := .i8) (cdV x0) (k0_off45_eq k) (inb := k0_off45_inb k) rfl ?_ ?_
  refine pieceC (e := .i8) (cdV x0) (k0_off44_eq k) (inb := k0_off44_inb k) rfl ?_ ?_
  refine pieceC (e := .i8) (cdV x0) (k0_off43_eq k) (inb := k0_off43_inb k) rfl ?_ ?_
  refine pieceC (e := .i8) (cdV x0) (k0_off42_eq k) (inb := k0_off42_inb k) rfl ?_ ?_
  refine pieceC (e := .i8) (cdV x0) (k0_off41_eq k) (inb := k0_off41_inb k) rfl ?_ ?_
  refine pieceC (e := .i8) (cdV x0) (k0_off40_eq k) (inb := k0_off40_inb k) rfl ?_ ?_
  refine pieceC (e := .i8) (cdV x0) (k0_off39_eq k) (inb := k0_off39_inb k) rfl ?_ ?_
  refine pieceC (e := .i8) (cdV x0) (k0_off38_eq k) (inb := k0_off38_inb k) rfl ?_ ?_
  refine pieceC (e := .i8) (cdV x0) (k0_off37_eq k) (inb := k0_off37_inb k) rfl ?_ ?_
  refine pieceC (e := .i8) (cdV x0) (k0_off36_eq k) (inb := k0_off36_inb k) rfl ?_ ?_
  refine pieceC (e := .i8) (cdV x0) (k0_off35_eq k) (inb := k0_off35_inb k) rfl ?_ ?_
  refine pieceC (e := .i8) (cdV x0) (k0_off34_eq k) (inb := k0_off34_inb k) rfl ?_ ?_
  refine pieceC (e := .i8) (cdV x0) (k0_off33_eq k) (inb := k0_off33_inb k) rfl ?_ ?_
  refine pieceC (e := .i8) (cdV x0) (k0_off32_eq k) (inb := k0_off32_inb k) rfl ?_ ?_
  refine pieceC (e := .i8) (cdV x0) (k0_off31_eq k) (inb := k0_off31_inb k) rfl ?_ ?_
  refine pieceC (e := .i8) (cdV x0) (k0_off30_eq k) (inb := k0_off30_inb k) rfl ?_ ?_
  refine pieceC (e := .i8) (cdV x0) (k0_off29_eq k) (inb := k0_off29_inb k) rfl ?_ ?_
  refine pieceC (e := .i8) (cdV x0) (k0_off28_eq k) (inb := k0_off28_inb k) rfl ?_ ?_
  refine pieceC (e := .i8) (cdV x0) (k0_off27_eq k) (inb := k0_off27_inb k) rfl ?_ ?_
  refine pieceC (e := .i8) (cdV x0) (k0_off26_eq k) (inb := k0_off26_inb k) rfl ?_ ?_
  refine pieceC (e := .i8) (cdV x0) (k0_off25_eq k) (inb := k0_off25_inb k) rfl ?_ ?_
  refine pieceC (e := .i8) (cdV x0) (k0_off24_eq k) (inb := k0_off24_inb k) rfl ?_ ?_
  refine pieceC (e := .i8) (cdV x0) (k0_off23_eq k) (inb := k0_off23_inb k) rfl ?_ ?_
  refine pieceC (e := .i8) (cdV x0) (k0_off22_eq k) (inb := k0_off22_inb k) rfl ?_ ?_
  refine pieceC (e := .i8) (cdV x0) (k0_off21_eq k) (inb := k0_off21_inb k) rfl ?_ ?_
  refine pieceC (e := .i8) (cdV x0) (k0_off20_eq k) (inb := k0_off20_inb k) rfl ?_ ?_
  refine pieceC (e := .i8) (cdV x0) (k0_off19_eq k) (inb := k0_off19_inb k) rfl ?_ ?_
  refine pieceC (e := .i8) (cdV x0) (k0_off18_eq k) (inb := k0_off18_inb k) rfl ?_ ?_
  refine pieceC (e := .i8) (cdV x0) (k0_off17_eq k) (inb := k0_off17_inb k) rfl ?_ ?_
  refine pieceC (e := .i8) (cdV x0) (k0_off16_eq k) (inb := k0_off16_inb k) rfl ?_ ?_
  refine pieceC (e := .i8) (cdV x0) (k0_off15_eq k) (inb := k0_off15_inb k) rfl ?_ ?_
  refine pieceC (e := .i8) (cdV x0) (k0_off14_eq k) (inb := k0_off14_inb k) rfl ?_ ?_
  refine pieceC (e := .i8) (cdV x0) (k0_off13_eq k) (inb := k0_off13_inb k) rfl ?_ ?_
  refine pieceC (e := .i8) (cdV x0) (k0_off12_eq k) (inb := k0_off12_inb k) rfl ?_ ?_
  refine pieceC (e := .i8) (cdV x0) (k0_off11_eq k) (inb := k0_off11_inb k) rfl ?_ ?_
  refine pieceC (e := .i8) (cdV x0) (k0_off10_eq k) (inb := k0_off10_inb k) rfl ?_ ?_
  refine pieceC (e := .i8) (cdV x0) (k0_off9_eq k) (inb := k0_off9_inb k) rfl ?_ ?_
  refine pieceC (e := .i8) (cdV x0) (k0_off8_eq k) (inb := k0_off8_inb k) rfl ?_ ?_
  refine pieceC (e := .i8) (cdV x0) (k0_off7_eq k) (inb := k0_off7_inb k) rfl ?_ ?_
  refine pieceC (e := .i8) (cdV x0) (k0_off6_eq k) (inb := k0_off6_inb k) rfl ?_ ?_
  refine pieceC (e := .i8) (cdV x0) (k0_off5_eq k) (inb := k0_off5_inb k) rfl ?_ ?_
  refine pieceC (e := .i8) (cdV x0) (k0_off4_eq k) (inb := k0_off4_inb k) rfl ?_ ?_
  refine pieceC (e := .i8) (cdV x0) (k0_off3_eq k) (inb := k0_off3_inb k) rfl ?_ ?_
  refine pieceC (e := .i8) (cdV x0) (k0_off2_eq k) (inb := k0_off2_inb k) rfl ?_ ?_
  refine pieceC (e := .i8) (cdV x0) (k0_off1_eq k) (inb := k0_off1_inb k) rfl ?_ ?_
  · exact fun p hp => absurd hp List.not_mem_nil
  all_goals
    simp -proj only [mx_eq arg1 harg1 x0 k arg5, trip_k0_t1.sl.r_154, trip_k0_t1.sl.r_155, trip_k0_t1.sl.r_156, trip_k0_t1.sl.r_157, trip_k0_t1.sl.r_158, trip_k0_t1.sl.r_159, trip_k0_t1.sl.r_160, trip_k0_t1.sl.r_161, trip_k0_t1.sl.r_162, trip_k0_t1.sl.r_163, trip_k0_t1.sl.r_164, trip_k0_t1.sl.r_165, trip_k0_t1.sl.r_166, trip_k0_t1.sl.r_167, trip_k0_t1.sl.r_168, trip_k0_t1.sl.r_169, trip_k0_t1.sl.r_170, trip_k0_t1.sl.r_171, trip_k0_t1.sl.v, trip_k0_t1.sl.v_1, trip_k0_t1.sl.v_2, trip_k0_t1.sl.v1235, trip_k0_t1.sl.v1248, trip_k0_t1.sl.v1261, trip_k0_t1.sl.v1274, trip_k0_t1.sl.v1287, trip_k0_t1.sl.v1300, trip_k0_t1.sl.v1313, trip_k0_t1.sl.v1326, trip_k0_t1.sl.v1339, trip_k0_t1.sl.v1352, trip_k0_t1.sl.v1365, trip_k0_t1.sl.v1378, trip_k0_t1.sl.v1391, trip_k0_t1.sl.v1404, trip_k0_t1.sl.v1417, trip_k0_t1.sl.v1430, trip_k0_t1.sl.v1456, trip_k0_t1.sl.v1469, trip_k0_t1.sl.v1482, trip_k0_t1.sl.v1495, trip_k0_t1.sl.v1508, trip_k0_t1.sl.v1521, trip_k0_t1.sl.v1534, trip_k0_t1.sl.v1547, trip_k0_t1.sl.v1560, trip_k0_t1.sl.v1573, trip_k0_t1.sl.v1586, trip_k0_t1.sl.v1599, trip_k0_t1.sl.v1612, trip_k0_t1.sl.v1625, trip_k0_t1.sl.v1638, trip_k0_t1.sl.v1651, trip_k0_t1.sl.v1664, trip_k0_t1.sl.v1677, trip_k0_t1.sl.v1690, trip_k0_t1.sl.v1716, trip_k0_t1.sl.v1729, trip_k0_t1.sl.v1742, trip_k0_t1.sl.v1755, trip_k0_t1.sl.v1768, trip_k0_t1.sl.v1781, trip_k0_t1.sl.v1794, trip_k0_t1.sl.v1807, trip_k0_t1.sl.v1820, trip_k0_t1.sl.v1833, trip_k0_t1.sl.v1846, trip_k0_t1.sl.v1859, trip_k0_t1.sl.v1872, trip_k0_t1.sl.v1885, trip_k0_t1.sl.v1898, trip_k0_t1.sl.v1911, trip_k0_t1.sl.v1924, trip_k0_t1.sl.v1937, trip_k0_t1.sl.v1950, trip_k0_t1.sl.v1976, trip_k0_t1.sl.v1989, trip_k0_t1.sl.v2002, trip_k0_t1.sl.v2015, trip_k0_t1.sl.v2028, trip_k0_t1.sl.v2041, trip_k0_t1.sl.v2054, trip_k0_t1.sl.cst_455, trip_k0_t1.sl.cst_472,
      k0_pay1, k0_pay2, k0_pay3, k0_pay4, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, rdZ arg5 (canon8 arg1 harg1 x0 k arg5), Nat.reduceMod, Nat.reduceDiv, Nat.reduceMul, Nat.reduceAdd, Nat.reduceLT, if_true, if_false, ite_true, ite_false, Nat.lt_irrefl, decide_true, decide_false, shapeCast_self]
    rfl

theorem trip_vals : ∀ p ∈ (trip_k0_t1 (F := Ideal) Variants.none c none i arg1 harg1 arg2 harg2 arg3 harg3 arg4 harg4 arg5 harg5 (harg1.unread x0) k).2.1 f2 f3 f4 f5, ∀ x, p.2 x = glue (cbV x0) (p.1.emb x) := by
  unfold trip_k0_t1
  refine pieceC (e := .bf16) (cbV x0) (k0_off64_eq k) (inb := k0_off64_inb k) rfl ?_ ?_
  refine pieceC (e := .bf16) (cbV x0) (k0_off63_eq k) (inb := k0_off63_inb k) rfl ?_ ?_
  refine pieceC (e := .bf16) (cbV x0) (k0_off62_eq k) (inb := k0_off62_inb k) rfl ?_ ?_
  refine pieceC (e := .bf16) (cbV x0) (k0_off61_eq k) (inb := k0_off61_inb k) rfl ?_ ?_
  refine pieceC (e := .bf16) (cbV x0) (k0_off60_eq k) (inb := k0_off60_inb k) rfl ?_ ?_
  refine pieceC (e := .bf16) (cbV x0) (k0_off59_eq k) (inb := k0_off59_inb k) rfl ?_ ?_
  refine pieceC (e := .bf16) (cbV x0) (k0_off58_eq k) (inb := k0_off58_inb k) rfl ?_ ?_
  refine pieceC (e := .bf16) (cbV x0) (k0_off57_eq k) (inb := k0_off57_inb k) rfl ?_ ?_
  refine pieceC (e := .bf16) (cbV x0) (k0_off56_eq k) (inb := k0_off56_inb k) rfl ?_ ?_
  refine pieceC (e := .bf16) (cbV x0) (k0_off55_eq k) (inb := k0_off55_inb k) rfl ?_ ?_
  refine pieceC (e := .bf16) (cbV x0) (k0_off54_eq k) (inb := k0_off54_inb k) rfl ?_ ?_
  refine pieceC (e := .bf16) (cbV x0) (k0_off53_eq k) (inb := k0_off53_inb k) rfl ?_ ?_
  refine pieceC (e := .bf16) (cbV x0) (k0_off52_eq k) (inb := k0_off52_inb k) rfl ?_ ?_
  refine pieceC (e := .bf16) (cbV x0) (k0_off51_eq k) (inb := k0_off51_inb k) rfl ?_ ?_
  refine pieceC (e := .bf16) (cbV x0) (k0_off50_eq k) (inb := k0_off50_inb k) rfl ?_ ?_
  refine pieceC (e := .bf16) (cbV x0) (k0_off49_eq k) (inb := k0_off49_inb k) rfl ?_ ?_
  refine pieceC (e := .bf16) (cbV x0) (k0_off48_eq k) (inb := k0_off48_inb k) rfl ?_ ?_
  refine pieceC (e := .bf16) (cbV x0) (k0_off47_eq k) (inb := k0_off47_inb k) rfl ?_ ?_
  refine pieceC (e := .bf16) (cbV x0) (k0_off46_eq k) (inb := k0_off46_inb k) rfl ?_ ?_
  refine pieceC (e := .bf16) (cbV x0) (k0_off45_eq k) (inb := k0_off45_inb k) rfl ?_ ?_
  refine pieceC (e := .bf16) (cbV x0) (k0_off44_eq k) (inb := k0_off44_inb k) rfl ?_ ?_
  refine pieceC (e := .bf16) (cbV x0) (k0_off43_eq k) (inb := k0_off43_inb k) rfl ?_ ?_
  refine pieceC (e := .bf16) (cbV x0) (k0_off42_eq k) (inb := k0_off42_inb k) rfl ?_ ?_
  refine pieceC (e := .bf16) (cbV x0) (k0_off41_eq k) (inb := k0_off41_inb k) rfl ?_ ?_
  refine pieceC (e := .bf16) (cbV x0) (k0_off40_eq k) (inb := k0_off40_inb k) rfl ?_ ?_
  refine pieceC (e := .bf16) (cbV x0) (k0_off39_eq k) (inb := k0_off39_inb k) rfl ?_ ?_
  refine pieceC (e := .bf16) (cbV x0) (k0_off38_eq k) (inb := k0_off38_inb k) rfl ?_ ?_
  refine pieceC (e := .bf16) (cbV x0) (k0_off37_eq k) (inb := k0_off37_inb k) rfl ?_ ?_
  refine pieceC (e := .bf16) (cbV x0) (k0_off36_eq k) (inb := k0_off36_inb k) rfl ?_ ?_
  refine pieceC (e := .bf16) (cbV x0) (k0_off35_eq k) (inb := k0_off35_inb k) rfl ?_ ?_
  refine pieceC (e := .bf16) (cbV x0) (k0_off34_eq k) (inb := k0_off34_inb k) rfl ?_ ?_
  refine pieceC (e := .bf16) (cbV x0) (k0_off33_eq k) (inb := k0_off33_inb k) rfl ?_ ?_
  refine pieceC (e := .bf16) (cbV x0) (k0_off32_eq k) (inb := k0_off32_inb k) rfl ?_ ?_
  refine pieceC (e := .bf16) (cbV x0) (k0_off31_eq k) (inb := k0_off31_inb k) rfl ?_ ?_
  refine pieceC (e := .bf16) (cbV x0) (k0_off30_eq k) (inb := k0_off30_inb k) rfl ?_ ?_
  refine pieceC (e := .bf16) (cbV x0) (k0_off29_eq k) (inb := k0_off29_inb k) rfl ?_ ?_
  refine pieceC (e := .bf16) (cbV x0) (k0_off28_eq k) (inb := k0_off28_inb k) rfl ?_ ?_
  refine pieceC (e := .bf16) (cbV x0) (k0_off27_eq k) (inb := k0_off27_inb k) rfl ?_ ?_
  refine pieceC (e := .bf16) (cbV x0) (k0_off26_eq k) (inb := k0_off26_inb k) rfl ?_ ?_
  refine pieceC (e := .bf16) (cbV x0) (k0_off25_eq k) (inb := k0_off25_inb k) rfl ?_ ?_
  refine pieceC (e := .bf16) (cbV x0) (k0_off24_eq k) (inb := k0_off24_inb k) rfl ?_ ?_
  refine pieceC (e := .bf16) (cbV x0) (k0_off23_eq k) (inb := k0_off23_inb k) rfl ?_ ?_
  refine pieceC (e := .bf16) (cbV x0) (k0_off22_eq k) (inb := k0_off22_inb k) rfl ?_ ?_
  refine pieceC (e := .bf16) (cbV x0) (k0_off21_eq k) (inb := k0_off21_inb k) rfl ?_ ?_
  refine pieceC (e := .bf16) (cbV x0) (k0_off20_eq k) (inb := k0_off20_inb k) rfl ?_ ?_
  refine pieceC (e := .bf16) (cbV x0) (k0_off19_eq k) (inb := k0_off19_inb k) rfl ?_ ?_
  refine pieceC (e := .bf16) (cbV x0) (k0_off18_eq k) (inb := k0_off18_inb k) rfl ?_ ?_
  refine pieceC (e := .bf16) (cbV x0) (k0_off17_eq k) (inb := k0_off17_inb k) rfl ?_ ?_
  refine pieceC (e := .bf16) (cbV x0) (k0_off16_eq k) (inb := k0_off16_inb k) rfl ?_ ?_
  refine pieceC (e := .bf16) (cbV x0) (k0_off15_eq k) (inb := k0_off15_inb k) rfl ?_ ?_
  refine pieceC (e := .bf16) (cbV x0) (k0_off14_eq k) (inb := k0_off14_inb k) rfl ?_ ?_
  refine pieceC (e := .bf16) (cbV x0) (k0_off13_eq k) (inb := k0_off13_inb k) rfl ?_ ?_
  refine pieceC (e := .bf16) (cbV x0) (k0_off12_eq k) (inb := k0_off12_inb k) rfl ?_ ?_
  refine pieceC (e := .bf16) (cbV x0) (k0_off11_eq k) (inb := k0_off11_inb k) rfl ?_ ?_
  refine pieceC (e := .bf16) (cbV x0) (k0_off10_eq k) (inb := k0_off10_inb k) rfl ?_ ?_
  refine pieceC (e := .bf16) (cbV x0) (k0_off9_eq k) (inb := k0_off9_inb k) rfl ?_ ?_
  refine pieceC (e := .bf16) (cbV x0) (k0_off8_eq k) (inb := k0_off8_inb k) rfl ?_ ?_
  refine pieceC (e := .bf16) (cbV x0) (k0_off7_eq k) (inb := k0_off7_inb k) rfl ?_ ?_
  refine pieceC (e := .bf16) (cbV x0) (k0_off6_eq k) (inb := k0_off6_inb k) rfl ?_ ?_
  refine pieceC (e := .bf16) (cbV x0) (k0_off5_eq k) (inb := k0_off5_inb k) rfl ?_ ?_
  refine pieceC (e := .bf16) (cbV x0) (k0_off4_eq k) (inb := k0_off4_inb k) rfl ?_ ?_
  refine pieceC (e := .bf16) (cbV x0) (k0_off3_eq k) (inb := k0_off3_inb k) rfl ?_ ?_
  refine pieceC (e := .bf16) (cbV x0) (k0_off2_eq k) (inb := k0_off2_inb k) rfl ?_ ?_
  refine pieceC (e := .bf16) (cbV x0) (k0_off1_eq k) (inb := k0_off1_inb k) rfl ?_ ?_
  · exact fun p hp => absurd hp List.not_mem_nil
  all_goals
    simp -proj only [mx_eq arg1 harg1 x0 k arg5, trip_k0_t1.sl.r_154, trip_k0_t1.sl.r_155, trip_k0_t1.sl.r_156, trip_k0_t1.sl.r_157, trip_k0_t1.sl.r_158, trip_k0_t1.sl.r_159, trip_k0_t1.sl.r_160, trip_k0_t1.sl.r_161, trip_k0_t1.sl.r_162, trip_k0_t1.sl.r_163, trip_k0_t1.sl.r_164, trip_k0_t1.sl.r_165, trip_k0_t1.sl.r_166, trip_k0_t1.sl.r_167, trip_k0_t1.sl.r_168, trip_k0_t1.sl.r_169, trip_k0_t1.sl.r_170, trip_k0_t1.sl.r_171, trip_k0_t1.sl.v, trip_k0_t1.sl.v_1, trip_k0_t1.sl.v_2, trip_k0_t1.sl.v1235, trip_k0_t1.sl.v1248, trip_k0_t1.sl.v1261, trip_k0_t1.sl.v1274, trip_k0_t1.sl.v1287, trip_k0_t1.sl.v1300, trip_k0_t1.sl.v1313, trip_k0_t1.sl.v1326, trip_k0_t1.sl.v1339, trip_k0_t1.sl.v1352, trip_k0_t1.sl.v1365, trip_k0_t1.sl.v1378, trip_k0_t1.sl.v1391, trip_k0_t1.sl.v1404, trip_k0_t1.sl.v1417, trip_k0_t1.sl.v1430, trip_k0_t1.sl.v1456, trip_k0_t1.sl.v1469, trip_k0_t1.sl.v1482, trip_k0_t1.sl.v1495, trip_k0_t1.sl.v1508, trip_k0_t1.sl.v1521, trip_k0_t1.sl.v1534, trip_k0_t1.sl.v1547, trip_k0_t1.sl.v1560, trip_k0_t1.sl.v1573, trip_k0_t1.sl.v1586, trip_k0_t1.sl.v1599, trip_k0_t1.sl.v1612, trip_k0_t1.sl.v1625, trip_k0_t1.sl.v1638, trip_k0_t1.sl.v1651, trip_k0_t1.sl.v1664, trip_k0_t1.sl.v1677, trip_k0_t1.sl.v1690, trip_k0_t1.sl.v1716, trip_k0_t1.sl.v1729, trip_k0_t1.sl.v1742, trip_k0_t1.sl.v1755, trip_k0_t1.sl.v1768, trip_k0_t1.sl.v1781, trip_k0_t1.sl.v1794, trip_k0_t1.sl.v1807, trip_k0_t1.sl.v1820, trip_k0_t1.sl.v1833, trip_k0_t1.sl.v1846, trip_k0_t1.sl.v1859, trip_k0_t1.sl.v1872, trip_k0_t1.sl.v1885, trip_k0_t1.sl.v1898, trip_k0_t1.sl.v1911, trip_k0_t1.sl.v1924, trip_k0_t1.sl.v1937, trip_k0_t1.sl.v1950, trip_k0_t1.sl.v1976, trip_k0_t1.sl.v1989, trip_k0_t1.sl.v2002, trip_k0_t1.sl.v2015, trip_k0_t1.sl.v2028, trip_k0_t1.sl.v2041, trip_k0_t1.sl.v2054, trip_k0_t1.sl.cst_455, trip_k0_t1.sl.cst_472,
      k0_pay1, k0_pay2, k0_pay3, k0_pay4, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, rdZ arg5 (canon8 arg1 harg1 x0 k arg5), Nat.reduceMod, Nat.reduceDiv, Nat.reduceMul, Nat.reduceAdd, Nat.reduceLT, if_true, if_false, ite_true, ite_false, Nat.lt_irrefl, decide_true, decide_false, shapeCast_self]
    rfl

theorem trip_scales : ∀ p ∈ (trip_k0_t1 (F := Ideal) Variants.none c none i arg1 harg1 arg2 harg2 arg3 harg3 arg4 harg4 arg5 harg5 (harg1.unread x0) k).2.2.1 f2 f3 f4 f5, ∀ x, p.2 x = scG x0 (p.1.emb x) := by
  unfold trip_k0_t1
  exact List.forall_mem_cons.mpr ⟨pieceS x0 (k0_off65_eq k) (inb := k0_off65_inb k) (congrArg k0_pay563 (mx_eq arg1 harg1 x0 k arg5)), fun p hp => absurd hp List.not_mem_nil⟩

end Cert.KernelIdeal.R0

end
-- ==== Proof.Region0.lean ====
module

public import proofs.«01_k».proof.Proof.Quant
public import proofs.«01_k».proof.Proof.FrameKI

@[expose] public section

set_option maxRecDepth 16384

noncomputable section

namespace Cert.KernelIdeal.R0

open Cert.KernelIdeal Cert.KernelIdeal.Gen
open Idealize.ShloMosaic Idealize.ShloMosaic.TcCoe

variable (arg1 : Memref sig .tc .vmem S64x8192 .bf16) (harg1 : arg1.IsWhole) (x0 : Vec Ideal S64x8192 .bf16)
  (arg5 : Memref sig .tc .vmem S32x8192 .f32) (c : Dev nD) (i : grid0.Coords) (arg2 : Memref sig .tc .vmem S64x8192 .i8) (harg2 : arg2.IsWhole)
  (arg3 : Memref sig .tc .vmem S64x8192 .bf16) (harg3 : arg3.IsWhole) (arg4 : Memref sig .tc .vmem S64x1 .f32) (harg4 : arg4.IsWhole) (harg5 : arg5.IsWhole)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty)

attribute [local irreducible] pb_k0_t1 in
/-- Every piece the trips before `n` store agrees with the whole block's values. -/
theorem pieces_agree (n : ℕ) (hn : n ≤ k0_t1_loop.trips) :
    (∀ p ∈ (pb_k0_t1 (F := Ideal) Variants.none c none i arg1 harg1 arg2 harg2 arg3 harg3 arg4 harg4 arg5 harg5 (harg1.unread x0) f2 f3 f4 f5 n).1, ∀ x, p.2 x = glue (cdV x0) (p.1.emb x))
    ∧ (∀ p ∈ (pb_k0_t1 (F := Ideal) Variants.none c none i arg1 harg1 arg2 harg2 arg3 harg3 arg4 harg4 arg5 harg5 (harg1.unread x0) f2 f3 f4 f5 n).2.1, ∀ x, p.2 x = glue (cbV x0) (p.1.emb x))
    ∧ (∀ p ∈ (pb_k0_t1 (F := Ideal) Variants.none c none i arg1 harg1 arg2 harg2 arg3 harg3 arg4 harg4 arg5 harg5 (harg1.unread x0) f2 f3 f4 f5 n).2.2.1, ∀ x, p.2 x = scG x0 (p.1.emb x)) := by
  induction n with
  | zero =>
    rw [pb_k0_t1.eq_1 (F := Ideal) Variants.none c none i arg1 harg1 arg2 harg2 arg3 harg3 arg4 harg4 arg5 harg5 (harg1.unread x0) f2 f3 f4 f5]
    exact ⟨fun p hp => absurd hp List.not_mem_nil, fun p hp => absurd hp List.not_mem_nil, fun p hp => absurd hp List.not_mem_nil⟩
  | succ n ih =>
    obtain ⟨h1, h2, h3⟩ := ih (Nat.le_of_succ_le hn)
    have hs := pb_k0_t1_succ (F := Ideal) Variants.none c none i arg1 harg1 arg2 harg2 arg3 harg3 arg4 harg4 arg5 harg5 (harg1.unread x0) f2 f3 f4 f5 ⟨n, hn⟩
    dsimp only at hs
    obtain ⟨L1, L2, L3, L4, hL⟩ := Fr.trip0_indep (F := Ideal) c i arg1 harg1 arg2 harg2 arg3 harg3 arg4 harg4 arg5 harg5 (harg1.unread x0) ⟨n, hn⟩
    have t1 : ∀ p ∈ L1, ∀ x, p.2 x = glue (cdV x0) (p.1.emb x) := by
      rw [← (hL f2 f3 f4 f5).1]; exact trip_codes arg1 harg1 x0 ⟨n, hn⟩ arg5 c i arg2 harg2 arg3 harg3 arg4 harg4 harg5 f2 f3 f4 f5
    have t2 : ∀ p ∈ L2, ∀ x, p.2 x = glue (cbV x0) (p.1.emb x) := by
      rw [← (hL f2 f3 f4 f5).2.1]; exact trip_vals arg1 harg1 x0 ⟨n, hn⟩ arg5 c i arg2 harg2 arg3 harg3 arg4 harg4 harg5 f2 f3 f4 f5
    have t3 : ∀ p ∈ L3, ∀ x, p.2 x = scG x0 (p.1.emb x) := by
      rw [← (hL f2 f3 f4 f5).2.2.1]; exact trip_scales arg1 harg1 x0 ⟨n, hn⟩ arg5 c i arg2 harg2 arg3 harg3 arg4 harg4 harg5 f2 f3 f4 f5
    simp only [fun f2 f3 f4 f5 => (hL f2 f3 f4 f5).1, fun f2 f3 f4 f5 => (hL f2 f3 f4 f5).2.1, fun f2 f3 f4 f5 => (hL f2 f3 f4 f5).2.2.1, fun f2 f3 f4 f5 => (hL f2 f3 f4 f5).2.2.2] at hs
    rw [hs]
    exact ⟨List.forall_mem_append.mpr ⟨t1, h1⟩, List.forall_mem_append.mpr ⟨t2, h2⟩, List.forall_mem_append.mpr ⟨t3, h3⟩⟩

theorem out_codes : Fr.out0_A_1 c i arg1 harg1 arg2 harg2 arg3 harg3 arg4 harg4 arg5 harg5 x0 = glue (cdV x0) := by
  have hc := Fr.cover0_A_1 c i arg1 harg1 arg2 harg2 arg3 harg3 arg4 harg4 arg5 harg5 x0
  unfold Fr.out0_A_1
  rw [View.read_writes_eq_canon _ _ _ hc]
  exact funext fun y => View.canon_apply_of_pieces _ _ (pieces_agree arg1 harg1 x0 arg5 c i arg2 harg2 arg3 harg3 arg4 harg4 harg5 _ _ _ _ _ (Nat.le_refl _)).1 y (hc y)

theorem out_vals : Fr.out0_A_2 c i arg1 harg1 arg2 harg2 arg3 harg3 arg4 harg4 arg5 harg5 x0 = glue (cbV x0) := by
  have hc := Fr.cover0_A_2 c i arg1 harg1 arg2 harg2 arg3 harg3 arg4 harg4 arg5 harg5 x0
  unfold Fr.out0_A_2
  rw [View.read_writes_eq_canon _ _ _ hc]
  exact funext fun y => View.canon_apply_of_pieces _ _ (pieces_agree arg1 harg1 x0 arg5 c i arg2 harg2 arg3 harg3 arg4 harg4 harg5 _ _ _ _ _ (Nat.le_refl _)).2.1 y (hc y)

theorem out_scales : Fr.out0_A_3 c i arg1 harg1 arg2 harg2 arg3 harg3 arg4 harg4 arg5 harg5 x0 = scG x0 := by
  have hc := Fr.cover0_A_3 c i arg1 harg1 arg2 harg2 arg3 harg3 arg4 harg4 arg5 harg5 x0
  unfold Fr.out0_A_3
  rw [View.read_writes_eq_canon _ _ _ hc]
  exact funext fun y => View.canon_apply_of_pieces _ _ (pieces_agree arg1 harg1 x0 arg5 c i arg2 harg2 arg3 harg3 arg4 harg4 harg5 _ _ _ _ _ (Nat.le_refl _)).2.2 y (hc y)

end Cert.KernelIdeal.R0

end
-- ==== Proof.Rotate.lean ====
module

public import Idealize.ShloMosaic.PureOps.Ideal
public import Idealize.ShloMosaic.PureOps.Ideal.Laws
public import Idealize.ShloMosaic.Lib.IdealHost

@[expose] public section

set_option maxRecDepth 16384

noncomputable section

namespace Cert.Math

open Idealize.ShloMosaic

/-! The rotation of one row over the extended reals: the two rounds of butterflies against the 64-by-64 sign matrix. -/

/-- A sum or a difference. -/
def pmE (b : Bool) (x y : EReal) : EReal := cond b (x - y) (x + y)

/-- Output `k` of a butterfly of eight values: three rounds of sums and differences, one for each bit of `k`. -/
def bfE (v : ℕ → EReal) (k : ℕ) : EReal :=
  pmE (k.testBit 2) (pmE (k.testBit 1) (pmE (k.testBit 0) (v 0) (v 1)) (pmE (k.testBit 0) (v 2) (v 3)))
    (pmE (k.testBit 1) (pmE (k.testBit 0) (v 4) (v 5)) (pmE (k.testBit 0) (v 6) (v 7)))

/-- The two rounds of butterflies over 64 values. -/
def rotE (x : ℕ → EReal) (g : ℕ) : EReal := bfE (fun j => bfE (fun i => x (8 * j + i)) (g % 8)) (g / 8)

/-- Whether the three low bits `j` and `k` share are odd in number. -/
def odd3 (j k : ℕ) : Bool :=
  xor (j.testBit 0 && k.testBit 0) (xor (j.testBit 1 && k.testBit 1) (j.testBit 2 && k.testBit 2))

/-- Whether the six low bits `h` and `g` share are odd in number. -/
def odd6 (h g : ℕ) : Bool := xor (odd3 (h / 8) (g / 8)) (odd3 (h % 8) (g % 8))

/-- A sign as a real. -/
def sgR (b : Bool) : ℝ := if b then -1 else 1

/-- Infinite, either way. -/
def Inf (x : EReal) : Prop := x = ⊤ ∨ x = ⊥

theorem inf_add_left {x : EReal} (y : EReal) (h : Inf x) : Inf (x + y) := by
  rcases h with rfl | rfl
  · induction y <;> simp [Inf]
  · simp [Inf]

theorem inf_add_right (x : EReal) {y : EReal} (h : Inf y) : Inf (x + y) := by
  rw [add_comm]; exact inf_add_left x h

theorem inf_neg {x : EReal} (h : Inf x) : Inf (-x) := by
  rcases h with rfl | rfl <;> simp [Inf]

theorem inf_pm_left (b : Bool) {x : EReal} (y : EReal) (h : Inf x) : Inf (pmE b x y) := by
  cases b
  · exact inf_add_left y h
  · show Inf (x - y); rw [sub_eq_add_neg]; exact inf_add_left _ h

theorem inf_pm_right (b : Bool) (x : EReal) {y : EReal} (h : Inf y) : Inf (pmE b x y) := by
  cases b
  · exact inf_add_right x h
  · show Inf (x - y); rw [sub_eq_add_neg]; exact inf_add_right _ (inf_neg h)

/-- A butterfly with an infinite input has infinite outputs. -/
theorem inf_bf (v : ℕ → EReal) (k j : ℕ) (hj : j < 8) (h : Inf (v j)) : Inf (bfE v k) := by
  unfold bfE
  match j, hj with
  | 0, _ => exact inf_pm_left _ _ (inf_pm_left _ _ (inf_pm_left _ _ h))
  | 1, _ => exact inf_pm_left _ _ (inf_pm_left _ _ (inf_pm_right _ _ h))
  | 2, _ => exact inf_pm_left _ _ (inf_pm_right _ _ (inf_pm_left _ _ h))
  | 3, _ => exact inf_pm_left _ _ (inf_pm_right _ _ (inf_pm_right _ _ h))
  | 4, _ => exact inf_pm_right _ _ (inf_pm_left _ _ (inf_pm_left _ _ h))
  | 5, _ => exact inf_pm_right _ _ (inf_pm_left _ _ (inf_pm_right _ _ h))
  | 6, _ => exact inf_pm_right _ _ (inf_pm_right _ _ (inf_pm_left _ _ h))
  | 7, _ => exact inf_pm_right _ _ (inf_pm_right _ _ (inf_pm_right _ _ h))

theorem inf_rot (x : ℕ → EReal) (g h : ℕ) (hh : h < 64) (hx : Inf (x h)) : Inf (rotE x g) := by
  unfold rotE
  refine inf_bf _ _ (h / 8) (by omega) (inf_bf _ _ (h % 8) (by omega) ?_)
  show Inf (x (8 * (h / 8) + h % 8))
  rw [Nat.div_add_mod]; exact hx

/-- The reference's sum: 64 values under the signs of column `g`. -/
def hadE (x : ℕ → EReal) (g : ℕ) : EReal := ∑ h : Fin 64, (sgR (odd6 h.val g) : EReal) * x h.val

theorem inf_sg (b : Bool) {x : EReal} (h : Inf x) : Inf ((sgR b : EReal) * x) := by
  cases b
  · simpa [sgR] using h
  · have : ((sgR true : ℝ) : EReal) = -1 := by simp [sgR]
    rw [this, neg_one_mul]; exact inf_neg h

theorem inf_had (x : ℕ → EReal) (g h : ℕ) (hh : h < 64) (hx : Inf (x h)) : Inf (hadE x g) := by
  unfold hadE
  rw [← Finset.add_sum_erase _ _ (Finset.mem_univ (⟨h, hh⟩ : Fin 64))]
  exact inf_add_left _ (inf_sg _ hx)

/-- The butterfly on reals. -/
def pmR (b : Bool) (x y : ℝ) : ℝ := cond b (x - y) (x + y)
def bfR (v : ℕ → ℝ) (k : ℕ) : ℝ :=
  pmR (k.testBit 2) (pmR (k.testBit 1) (pmR (k.testBit 0) (v 0) (v 1)) (pmR (k.testBit 0) (v 2) (v 3)))
    (pmR (k.testBit 1) (pmR (k.testBit 0) (v 4) (v 5)) (pmR (k.testBit 0) (v 6) (v 7)))

theorem pm_coe (b : Bool) (x y : ℝ) : pmE b x y = (pmR b x y : ℝ) := by
  cases b
  · exact (EReal.coe_add x y).symm
  · exact (EReal.coe_sub x y).symm

theorem bf_coe (v : ℕ → ℝ) (k : ℕ) : bfE (fun j => (v j : EReal)) k = (bfR v k : ℝ) := by
  simp only [bfE, bfR, pm_coe]

theorem bfR_eq (v : ℕ → ℝ) (k : ℕ) : bfR v k = ∑ j ∈ Finset.range 8, sgR (odd3 j k) * v j := by
  have t : ∀ n b, (n : ℕ).testBit b = decide (n / 2 ^ b % 2 = 1) := fun n b => by
    rw [Nat.testBit_eq_decide_div_mod_eq]
  simp only [Finset.sum_range_succ, Finset.sum_range_zero, bfR, odd3]
  generalize k.testBit 0 = a
  generalize k.testBit 1 = b
  generalize k.testBit 2 = c
  cases a <;> cases b <;> cases c <;> simp [t, pmR, sgR] <;> ring

theorem sum_64 (f : ℕ → ℝ) : ∑ h ∈ Finset.range 64, f h = ∑ j ∈ Finset.range 8, ∑ i ∈ Finset.range 8, f (8 * j + i) := by
  simp only [Finset.sum_range_succ, Finset.sum_range_zero, Nat.reduceMul, Nat.reduceAdd]
  ring

theorem sgR_xor (a b : Bool) : sgR (xor a b) = sgR a * sgR b := by cases a <;> cases b <;> simp [sgR]

/-- On reals the two rounds of butterflies are the reference's signed sum. -/
theorem rot_coe (v : ℕ → ℝ) (g : ℕ) : rotE (fun h => (v h : EReal)) g = hadE (fun h => (v h : EReal)) g := by
  have e1 : rotE (fun h => (v h : EReal)) g = ((bfR (fun j => bfR (fun i => v (8 * j + i)) (g % 8)) (g / 8) : ℝ) : EReal) := by
    unfold rotE; simp only [bf_coe]
  have e2 : hadE (fun h => (v h : EReal)) g = ((∑ h : Fin 64, sgR (odd6 h.val g) * v h.val : ℝ) : EReal) := by
    unfold hadE
    simp only [← EReal.coe_mul]
    exact (map_sum (⟨⟨((↑) : ℝ → EReal), EReal.coe_zero⟩, EReal.coe_add⟩ : ℝ →+ EReal) _ _).symm
  rw [e1, e2, Fin.sum_univ_eq_sum_range (fun h => sgR (odd6 h g) * v h) 64, sum_64]
  congr 1
  rw [bfR_eq]
  refine Finset.sum_congr rfl fun j hj => ?_
  rw [bfR_eq, Finset.mul_sum]
  refine Finset.sum_congr rfl fun i hi => ?_
  have hi' := Finset.mem_range.mp hi
  have h1 : (8 * j + i) / 8 = j := by omega
  have h2 : (8 * j + i) % 8 = i := by omega
  rw [odd6, h1, h2, sgR_xor, mul_assoc]

theorem eq_coe_of_not_inf {x : EReal} (h : ¬ Inf x) : x = ((x.toReal : ℝ) : EReal) :=
  (EReal.coe_toReal (fun e => h (.inl e)) (fun e => h (.inr e))).symm

theorem bf_congr {v w : ℕ → EReal} (k : ℕ) (h : ∀ j, j < 8 → v j = w j) : bfE v k = bfE w k := by
  unfold bfE
  rw [h 0 (by decide), h 1 (by decide), h 2 (by decide), h 3 (by decide), h 4 (by decide), h 5 (by decide), h 6 (by decide), h 7 (by decide)]

theorem rot_congr {x y : ℕ → EReal} (g : ℕ) (h : ∀ j, j < 64 → x j = y j) : rotE x g = rotE y g :=
  bf_congr _ fun j hj => bf_congr _ fun i hi => h _ (by omega)

/-- 64 values: either every output of the butterflies is the reference's signed sum, or every output of both is infinite. -/
theorem rot_cases (x : ℕ → EReal) :
    (∀ g, rotE x g = hadE x g) ∨ (∀ g, Inf (rotE x g) ∧ Inf (hadE x g)) := by
  by_cases h : ∃ j, j < 64 ∧ Inf (x j)
  · obtain ⟨j, hj, hx⟩ := h
    exact .inr fun g => ⟨inf_rot x g j hj hx, inf_had x g j hj hx⟩
  · refine .inl fun g => ?_
    have e : ∀ j, j < 64 → x j = (((x j).toReal : ℝ) : EReal) := fun j hj =>
      eq_coe_of_not_inf fun hi => h ⟨j, hj, hi⟩
    rw [rot_congr g e, rot_coe]
    unfold hadE
    exact Finset.sum_congr rfl fun i _ => congrArg ((sgR (odd6 i.val g) : EReal) * ·) (e i.val i.isLt).symm

end Cert.Math

end
-- ==== Proof.Quantiser.lean ====
module

public import proofs.«01_k».proof.Proof.Rotate

@[expose] public section

set_option maxRecDepth 16384

noncomputable section

namespace Cert.Math

open Idealize.ShloMosaic

/-! The quantiser of one row: the kernel's scale and codes, from the butterflies' outputs, against the reference's. -/

theorem c_eighth : Ideal.ofBits .f32 0x3E000000#32 = (((1 : ℝ) / 8 : ℝ) : EReal) := by
  simp [Ideal.ofBits, Ideal.ieee, -EReal.coe_mul, -EReal.coe_neg]; norm_num
theorem c_eight : Ideal.ofBits .f32 0x41000000#32 = ((8 : ℝ) : EReal) := by
  simp [Ideal.ofBits, Ideal.ieee, -EReal.coe_mul, -EReal.coe_neg]; norm_num
theorem c_seven : Ideal.ofBits .f32 0x40E00000#32 = ((7 : ℝ) : EReal) := by
  simp [Ideal.ofBits, Ideal.ieee, -EReal.coe_mul, -EReal.coe_neg]; norm_num
theorem c_neg_seven : Ideal.ofBits .f32 0xC0E00000#32 = ((-7 : ℝ) : EReal) := by
  simp [Ideal.ofBits, Ideal.ieee, -EReal.coe_mul, -EReal.coe_neg]; norm_num
theorem c_bot : Ideal.ofBits .f32 0xFF800000#32 = ⊥ := by
  simp [Ideal.ofBits, Ideal.ieee]

/-- The absolute value. -/
def ab (x : EReal) : EReal := max x (-x)

/-- `M` is the greatest absolute value of a row. -/
def IsMx (M : EReal) (f : ℕ → EReal) : Prop := ∀ b, M ≤ b ↔ ∀ c, c < 8192 → ab (f c) ≤ b

theorem ab_inf {x : EReal} (h : Inf x) : ab x = ⊤ := by
  rcases h with rfl | rfl <;> simp [ab]

theorem ab_nonneg (x : EReal) : 0 ≤ ab x := by
  rcases le_total 0 x with h | h
  · exact h.trans (le_max_left _ _)
  · exact (EReal.neg_nonneg.mpr h).trans (le_max_right _ _)

theorem mul_mono (r : ℝ) (hr : 0 ≤ r) {x y : EReal} (h : x ≤ y) : x * (r : EReal) ≤ y * (r : EReal) :=
  mul_le_mul_of_nonneg_right h (EReal.coe_nonneg.mpr hr)

theorem ab_mul (x : EReal) (r : ℝ) (hr : 0 ≤ r) : ab (x * (r : EReal)) = ab x * (r : EReal) := by
  have hm : Monotone fun y : EReal => y * (r : EReal) := fun _ _ h => mul_mono r hr h
  have := hm.map_max (a := x) (b := -x)
  show max (x * (r : EReal)) (-(x * (r : EReal))) = max x (-x) * (r : EReal)
  rw [← EReal.neg_mul]
  exact this.symm

theorem mul_cancel (x : EReal) (a b : ℝ) (h : a * b = 1) : x * (a : EReal) * (b : EReal) = x := by
  rw [mul_assoc, ← EReal.coe_mul, h, EReal.coe_one, mul_one]

/-- The butterflies' output at column `c` of a row: lane `c % 128` of head `c / 128`. -/
def rowK (x : ℕ → EReal) (c : ℕ) : EReal := rotE (fun h => x (128 * h + c % 128)) (c / 128)

/-- The reference's signed sum there. -/
def rowH (x : ℕ → EReal) (c : ℕ) : EReal := hadE (fun h => x (128 * h + c % 128)) (c / 128)

/-- The reference's rotated row. -/
def rowZ (x : ℕ → EReal) (c : ℕ) : EReal := rowH x c * (((1 : ℝ) / 8 : ℝ) : EReal)

variable {x : ℕ → EReal} {MK MR : EReal}

theorem row_cases (hK : IsMx MK (rowK x)) (hR : IsMx MR (rowZ x)) :
    (∀ c, rowK x c = rowH x c) ∨ (MK = ⊤ ∧ MR = ⊤) := by
  by_cases h : ∀ l, l < 128 → ∀ g, rotE (fun h => x (128 * h + l)) g = hadE (fun h => x (128 * h + l)) g
  · exact .inl fun c => h (c % 128) (Nat.mod_lt _ (by decide)) _
  · refine .inr ?_
    push Not at h
    obtain ⟨l, hl, g, hg⟩ := h
    have hi := ((rot_cases fun h => x (128 * h + l)).resolve_left fun e => hg (e g)) 0
    have e1 : rowK x l = rotE (fun h => x (128 * h + l)) 0 := by
      unfold rowK; rw [Nat.mod_eq_of_lt hl, Nat.div_eq_of_lt hl]
    have e2 : rowH x l = hadE (fun h => x (128 * h + l)) 0 := by
      unfold rowH; rw [Nat.mod_eq_of_lt hl, Nat.div_eq_of_lt hl]
    constructor
    · have := (hK MK).mp le_rfl l (by omega)
      rw [e1, ab_inf hi.1] at this
      exact top_le_iff.mp this
    · have := (hR MR).mp le_rfl l (by omega)
      unfold rowZ at this
      rw [ab_mul _ _ (by norm_num), e2, ab_inf hi.2, EReal.top_mul_coe_of_pos (by norm_num)] at this
      exact top_le_iff.mp this

/-- An eighth of the kernel's maximum is the reference's maximum. -/
theorem max_eq (hK : IsMx MK (rowK x)) (hR : IsMx MR (rowZ x)) : MK * (((1 : ℝ) / 8 : ℝ) : EReal) = MR := by
  rcases row_cases hK hR with h | ⟨rfl, rfl⟩
  · refine le_antisymm ?_ ((hR _).mpr fun c hc => ?_)
    · have : MK ≤ MR * ((8 : ℝ) : EReal) := (hK _).mpr fun c hc => by
        have := mul_mono 8 (by norm_num) ((hR MR).mp le_rfl c hc)
        unfold rowZ at this
        rwa [ab_mul _ _ (by norm_num), mul_cancel _ _ _ (by norm_num), ← h c] at this
      have := mul_mono (1 / 8) (by norm_num) this
      rwa [mul_cancel _ _ _ (by norm_num)] at this
    · unfold rowZ
      rw [ab_mul _ _ (by norm_num), ← h c]
      exact mul_mono _ (by norm_num) ((hK MK).mp le_rfl c hc)
  · exact EReal.top_mul_coe_of_pos (by norm_num)

/-- The scale of a row whose greatest absolute value is `M`. -/
def scE (M : EReal) : EReal := if M = 0 then 1 else Ideal.div M ((7 : ℝ) : EReal)

theorem sc_sel (M : EReal) : Scalar.select (Ideal.cmp .oeq M 0) 1 (Ideal.div M ((7 : ℝ) : EReal)) = scE M := by
  unfold scE
  by_cases h : M = 0 <;> simp [Scalar.select, Ideal.cmp, h]

theorem div_coe_ne (M : EReal) (r : ℝ) (hr : r ≠ 0) : Ideal.div M (r : EReal) = M * ((r⁻¹ : ℝ) : EReal) := by
  unfold Ideal.div
  rw [if_neg (by exact_mod_cast hr), EReal.coe_inv]

theorem sc_top : scE ⊤ = ⊤ := by
  unfold scE
  rw [if_neg (by simp), div_coe_ne _ _ (by norm_num)]
  exact EReal.top_mul_coe_of_pos (by norm_num)

/-- The scale is infinite or a positive real. -/
theorem sc_cases {M : EReal} (h : 0 ≤ M) : scE M = ⊤ ∨ ∃ r : ℝ, 0 < r ∧ scE M = (r : EReal) := by
  induction M with
  | bot => simp at h
  | top => exact .inl sc_top
  | coe m =>
    refine .inr ?_
    unfold scE
    by_cases h0 : m = 0
    · exact ⟨1, by norm_num, by simp [h0]⟩
    · have hm : 0 < m := lt_of_le_of_ne (EReal.coe_nonneg.mp h) (Ne.symm h0)
      refine ⟨m * 7⁻¹, by positivity, ?_⟩
      rw [if_neg (by exact_mod_cast h0), div_coe_ne _ _ (by norm_num), ← EReal.coe_mul]

theorem div_top (v : EReal) : Ideal.div v ⊤ = 0 := by
  unfold Ideal.div
  rw [if_neg (by simp), EReal.inv_top, mul_zero]

/-- The kernel's quotient is the reference's. -/
theorem quot_eq (hK : IsMx MK (rowK x)) (hR : IsMx MR (rowZ x)) (c : ℕ) :
    Ideal.div (rowK x c) (scE MR * ((8 : ℝ) : EReal)) = Ideal.div (rowZ x c) (scE MR) := by
  have h0 : 0 ≤ MR := (ab_nonneg _).trans ((hR MR).mp le_rfl 0 (by decide))
  rcases sc_cases h0 with hs | ⟨r, hr, hs⟩
  · rw [hs, EReal.top_mul_coe_of_pos (by norm_num), div_top, div_top]
  · rcases row_cases hK hR with h | ⟨-, h⟩
    · rw [hs, ← EReal.coe_mul, div_coe_ne _ _ (by positivity), div_coe_ne _ _ hr.ne', h c]
      unfold rowZ
      rw [mul_assoc, ← EReal.coe_mul]
      congr 2
      field_simp
    · rw [h, sc_top] at hs
      exact absurd hs (EReal.top_ne_coe r)

/-- A quotient rounded to the nearest integer, halves to even, and clipped to the codes' range. -/
def clipE (q : EReal) : EReal :=
  min ((7 : ℝ) : EReal) (max ((-7 : ℝ) : EReal) (Ideal.liftRound Ideal.roundHalfEven q))

/-- The integer codes: eight bits at once or by way of 32 bits. -/
theorem code_bits (q : EReal) : (Ideal.fptosi 32 (clipE q)).setWidth 8 = Ideal.fptosi 8 (clipE q) := by
  obtain ⟨r, h1, h2, hr⟩ : ∃ r : ℝ, -7 ≤ r ∧ r ≤ 7 ∧ clipE q = (r : EReal) := by
    have l1 : ((-7 : ℝ) : EReal) ≤ clipE q := le_min (by exact_mod_cast (by norm_num : (-7 : ℝ) ≤ 7)) (le_max_left _ _)
    have l2 : clipE q ≤ ((7 : ℝ) : EReal) := min_le_left _ _
    generalize clipE q = y at l1 l2
    induction y with
    | bot => simp at l1
    | top => simp at l2
    | coe r => exact ⟨r, by exact_mod_cast l1, by exact_mod_cast l2, rfl⟩
  rw [hr]
  have hn : ∃ n : ℤ, -7 ≤ n ∧ n ≤ 7 ∧ (if 0 ≤ r then ⌊r⌋ else ⌈r⌉) = n := by
    refine ⟨_, ?_, ?_, rfl⟩
    · split
      · exact Int.le_floor.mpr (by push_cast; exact h1)
      · have : (-7 : ℤ) ≤ ⌊r⌋ := Int.le_floor.mpr (by push_cast; exact h1)
        exact this.trans (Int.floor_le_ceil r)
    · split
      · have : ⌈r⌉ ≤ (7 : ℤ) := Int.ceil_le.mpr (by push_cast; exact h2)
        exact (Int.floor_le_ceil r).trans this
      · exact Int.ceil_le.mpr (by push_cast; exact h2)
  obtain ⟨n, n1, n2, e⟩ := hn
  have cl : ∀ lo hi : ℤ, lo ≤ -7 → 7 ≤ hi → Ideal.toIntClamped lo hi (r : EReal) = n := fun lo hi hl hh => by
    show max lo (min hi (if 0 ≤ r then ⌊r⌋ else ⌈r⌉)) = n
    rw [e]; omega
  unfold Ideal.fptosi
  rw [cl _ _ (by norm_num) (by norm_num), cl _ _ (by norm_num) (by norm_num)]
  clear e cl
  interval_cases n <;> rfl

end Cert.Math

end
-- ==== Proof.KernelRow.lean ====
module

public import proofs.«01_k».proof.Proof.Quant
public import proofs.«01_k».proof.Proof.Quantiser

@[expose] public section

set_option maxRecDepth 16384

noncomputable section

namespace Cert.KernelIdeal.R0

open Cert.KernelIdeal Cert.KernelIdeal.Gen
open Idealize.ShloMosaic Idealize.ShloMosaic.TcCoe Cert.Math

/-! What one block of the first region holds, row by row, in the words of the row quantiser. -/

theorem pm_apply (b : Bool) (x y : FVec Ideal S32x128 .f32) (j : S32x128.Idx) : pm b x y j = pmE b (x j) (y j) := by
  cases b <;> rfl

theorem bf_apply (v : ℕ → FVec Ideal S32x128 .f32) (k : ℕ) (j : S32x128.Idx) : bf v k j = bfE (fun i => v i j) k := by
  simp only [bf, bfE, pm_apply]

/-- Row `r` of a block. -/
def brow (x0 : Vec Ideal S64x8192 .bf16) (r : ℕ) : ℕ → EReal := fun c => x0 (ix r c)

theorem S2_apply (x0 : Vec Ideal S64x8192 .bf16) (k h : ℕ) (j : S32x128.Idx) :
    S2 x0 k h j = rowK (brow x0 (32 * k + (j 0).val)) (128 * h + (j 1).val) := by
  have h1 : (j 1).val < 128 := (j 1).isLt
  have e1 : (128 * h + (j 1).val) / 128 = h := by omega
  have e2 : (128 * h + (j 1).val) % 128 = (j 1).val := by omega
  unfold S2 S1 rowK rotE
  rw [e1, e2, bf_apply]
  refine congrArg (bfE · (h / 8)) (funext fun a => ?_)
  rw [bf_apply, show (8 * a + h % 8) / 8 = a by omega, show (8 * a + h % 8) % 8 = h % 8 by omega]
  rfl

theorem foldl_max_le (f : ℕ → FVec Ideal S32x128 .f32) (j : S32x128.Idx) (b : EReal) : ∀ (L : List ℕ) (m : FVec Ideal S32x128 .f32),
    L.foldl (fun m t => maximumf m (absf (f t))) m j ≤ b ↔ m j ≤ b ∧ ∀ t ∈ L, ab (f t j) ≤ b := by
  intro L
  induction L with
  | nil => intro m; simp
  | cons t L ih =>
    intro m
    rw [List.foldl_cons, ih, List.forall_mem_cons, ← and_assoc]
    refine and_congr_left fun _ => ?_
    exact max_le_iff

theorem reduce_lift (r : S32.Idx) (l : Fin (S32x128.size 1)) : (reduces_S32x128_S32.lift r l 0).val = (r 0).val ∧ (reduces_S32x128_S32.lift r l 1).val = l.val := ⟨rfl, rfl⟩

attribute [local irreducible] mxV in
/-- The greatest absolute value of a row of the butterflies' outputs. -/
theorem mx_val (x0 : Vec Ideal S64x8192 .bf16) (k : ℕ) (i : S32x1.Idx) : IsMx (mxR x0 k i) (rowK (brow x0 (32 * k + (i 0).val))) := by
  intro b
  have hi1 : (i 1).val < 1 := (i 1).isLt
  let r : S32.Idx := fun a => match a with | 0 => ⟨(i 0).val, (i 0).isLt⟩
  have e : mxR x0 k i = multiReduction .maximumf [1] S32 (mxV x0 k) 0xFF800000#32 reduces_S32x128_S32 (.inl rfl) rfl r := by
    unfold mxR
    refine shapeCast_apply _ _ i r ?_
    rw [Shape.rowMajor_val_one, Shape.rowMajor_val_two]
    show (i 0).val = (i 0).val * 1 + (i 1).val
    omega
  rw [e, (Ideal.multiReduction_maximumf_single (a := (1 : Fin S32x128.rank)) (mxV x0 k) 0xFF800000#32 reduces_S32x128_S32 (.inl rfl) rfl r :)]
  rw [Finset.fold_max_le]
  have key : ∀ l : Fin (S32x128.size 1), mxV x0 k (reduces_S32x128_S32.lift r l) ≤ b ↔ 0 ≤ b ∧ ∀ h, h < 64 → ab (rowK (brow x0 (32 * k + (i 0).val)) (128 * h + l.val)) ≤ b := by
    intro l
    unfold mxV
    rw [foldl_max_le]
    refine and_congr ?_ ?_
    · show Ideal.ofBits .f32 0#32 ≤ b ↔ _
      rw [Ideal.ofBits_zero_f32]
    · simp only [List.mem_range, S2_apply]
      obtain ⟨l0, l1⟩ := reduce_lift r l
      rw [l0, l1]
      constructor
      · intro H h hh
        have := H (8 * (h % 8) + h / 8) (by omega)
        rwa [show 8 * ((8 * (h % 8) + h / 8) % 8) + (8 * (h % 8) + h / 8) / 8 = h by omega] at this
      · intro H t ht
        exact H _ (by omega)
  constructor
  · rintro ⟨-, H⟩ c hc
    have := ((key ⟨c % 128, Nat.mod_lt _ (by decide)⟩).mp (H _ (Finset.mem_univ _))).2 (c / 128) (by omega)
    rwa [show 128 * (c / 128) + c % 128 = c by omega] at this
  · intro H
    have h0 : 0 ≤ b := (ab_nonneg _).trans (H 0 (by omega))
    constructor
    · rw [Ideal.ofBits_def, c_bot]; exact bot_le
    · intro l _
      have hl : l.val < 128 := l.isLt
      show mxV x0 k (reduces_S32x128_S32.lift r l) ≤ b
      exact (key l).mpr ⟨h0, fun h hh => H _ (by omega)⟩

theorem pay563_apply (m : FVec Ideal S32x1 .f32) (i : S32x1.Idx) : k0_pay563 m i = scE (m i * (((1 : ℝ) / 8 : ℝ) : EReal)) := by
  rw [← sc_sel]
  unfold k0_pay563
  show Scalar.select (Ideal.cmp .oeq (m i * Ideal.ofBits .f32 0x3E000000#32) (Ideal.ofBits .f32 0#32)) (Ideal.ofBits .f32 0x3F800000#32) (Ideal.div (m i * Ideal.ofBits .f32 0x3E000000#32) (Ideal.ofBits .f32 0x40E00000#32)) = _
  rw [c_eighth, c_seven, Ideal.ofBits_zero_f32, Ideal.ofBits_one_f32]

theorem pay564_apply (m : FVec Ideal S32x1 .f32) (j : S32x128.Idx) (i : S32x1.Idx) (h : (i 0).val = (j 0).val) :
    k0_pay564 m j = scE (m i * (((1 : ℝ) / 8 : ℝ) : EReal)) * ((8 : ℝ) : EReal) := by
  have hi1 : (i 1).val < 1 := (i 1).isLt
  unfold k0_pay564
  refine (broadcastTo_apply _ _ j i fun a => ?_).trans ?_
  · match a with
    | 0 => exact h
    | 1 => exact (show (i 1).val = 0 by omega)
  · rw [shapeCast_self]
    show k0_pay563 m i * Ideal.ofBits .f32 0x41000000#32 = _
    rw [pay563_apply, c_eight]

variable (x0 : Vec Ideal S64x8192 .bf16) (x : ℕ → EReal) (MR : EReal)

/-- A code of the block is the reference's. -/
theorem code_blk (hR : IsMx MR (rowZ x)) (y : S64x8192.Idx) (hx : brow x0 (y 0).val = x) :
    glue (cdV x0) y = Ideal.fptosi 8 (clipE (Ideal.div (rowZ x (y 1).val) (scE MR))) := by
  have h0 : (y 0).val < 64 := (y 0).isLt
  have h1 : (y 1).val < 8192 := (y 1).isLt
  subst hx
  have er : 32 * ((y 0).val / 32) + (jx1 (y 0).val 0).val = (y 0).val := by
    show 32 * ((y 0).val / 32) + (y 0).val % 32 = (y 0).val
    omega
  have hm := mx_val x0 ((y 0).val / 32) (jx1 (y 0).val)
  rw [er] at hm
  unfold glue cdV
  refine congrArg (Ideal.fptosi 8) ?_
  show min (Ideal.ofBits .f32 0x40E00000#32) (max (Ideal.ofBits .f32 0xC0E00000#32) (Ideal.liftRound Ideal.roundHalfEven
    (Ideal.div (S2 x0 ((y 0).val / 32) ((y 1).val / 128) (jx (y 0).val (y 1).val)) (k0_pay564 (mxR x0 ((y 0).val / 32)) (jx (y 0).val (y 1).val))))) = _
  rw [c_seven, c_neg_seven, pay564_apply _ _ (jx1 (y 0).val) rfl, max_eq hm hR, S2_apply]
  have e2 : 32 * ((y 0).val / 32) + (jx (y 0).val (y 1).val 0).val = (y 0).val := er
  have e3 : 128 * ((y 1).val / 128) + (jx (y 0).val (y 1).val 1).val = (y 1).val := by
    show 128 * ((y 1).val / 128) + (y 1).val % 128 = (y 1).val
    omega
  rw [e2, e3, quot_eq hm hR]
  rfl

/-- A scale of the block is the reference's. -/
theorem scale_blk (hR : IsMx MR (rowZ x)) (y : S64x1.Idx) (hx : brow x0 (y 0).val = x) : scG x0 y = scE MR := by
  have h0 : (y 0).val < 64 := (y 0).isLt
  subst hx
  have er : 32 * ((y 0).val / 32) + (jx1 (y 0).val 0).val = (y 0).val := by
    show 32 * ((y 0).val / 32) + (y 0).val % 32 = (y 0).val
    omega
  have hm := mx_val x0 ((y 0).val / 32) (jx1 (y 0).val)
  rw [er] at hm
  unfold scG scV
  rw [pay563_apply, max_eq hm hR]

end Cert.KernelIdeal.R0

end
-- ==== Proof.Arrays0.lean ====
module

public import proofs.«01_k».proof.Proof.Region0
public import proofs.«01_k».proof.Proof.KernelRow

@[expose] public section

set_option maxRecDepth 16384

noncomputable section

namespace Cert.KernelIdeal.A0

open Cert.KernelIdeal Cert.KernelIdeal.Gen Cert.KernelIdeal.R0
open Idealize.ShloMosaic Idealize.ShloMosaic.TcCoe Cert.Math
open Idealize.ShloMosaic.Pipeline (Dat)

/-! What the first region's three arrays hold after its 64 points. -/

/-- Where each window's block lies at a point: rows from 64 times the point's number on. -/
theorem where_0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) := by
  decide +kernel

/-- Every block is whole. -/
theorem size_0 : ∀ t : Fin cfg0.N, (win0_1.xsize (grid0.coords t) 0 = 64 ∧ win0_1.xsize (grid0.coords t) 1 = 8192)
    ∧ (win0_2.xsize (grid0.coords t) 0 = 64 ∧ win0_2.xsize (grid0.coords t) 1 = 8192)
    ∧ (win0_3.xsize (grid0.coords t) 0 = 64 ∧ win0_3.xsize (grid0.coords t) 1 = 1) := by
  decide +kernel

/-- An index of the two-dimensional input. -/
def i2 (t c : ℕ) : S4096x8192.Idx := fun a => match a with
  | 0 => ⟨t % 4096, Nat.mod_lt _ (by decide)⟩
  | 1 => ⟨c % 8192, Nat.mod_lt _ (by decide)⟩

/-- One row of it. -/
def rowA (X : Vec Ideal S4096x8192 .bf16) (t : ℕ) : ℕ → EReal := fun c => X (i2 t c)

variable (V : (c : Dev nD) → (b : Ref sig .tc) → Buf (Elt Ideal) ((c : Thread nD τ).loc b)) (c : Dev nD)
  (X : Vec Ideal S4096x8192 .bf16) (hX : V c main_v0 = X) (MR : ℕ → EReal) (hR : ∀ t, t < 4096 → IsMx (MR t) (rowZ (rowA X t)))

/-- The codes' array. -/
def GC : Vec Ideal S4096x8192 .i8 := fun i => Ideal.fptosi 8 (clipE (Ideal.div (rowZ (rowA X (i 0).val) (i 1).val) (scE (MR (i 0).val))))

/-- The codes' array as values. -/
def GV : Vec Ideal S4096x8192 .bf16 := fun i => FloatOps.sitofp (F := Ideal) .bf16 (GC X MR i : BitVec 8)

/-- The scales' array. -/
def GS : Vec Ideal S4096x1 .f32 := fun i => scE (MR (i 0).val)

include hX in
/-- A row of a point's input block is a row of the array. -/
theorem row_blk (t : Fin cfg0.N) (r : ℕ) (hr : r < 64) : brow (Fr.iblk0 V c 0 t) r = rowA X (64 * t.val + r) := by
  have hN : t.val < 64 := lt_of_lt_of_eq t.isLt N_0
  subst hX
  funext k
  have w := where_0 t
  unfold brow rowA Fr.iblk0
  rw [View.read_apply]
  have e : ((cfg0.win 0).blk t).view.emb (ix r k) = i2 (64 * t.val + r) k := by
    funext a
    refine Fin.ext ?_
    match a with
    | 0 =>
      show win0_0.index t 0 * 64 + 1 * (r % 64) = (64 * t.val + r) % 4096
      rw [w.1.1]; omega
    | 1 =>
      show win0_0.index t 1 * 8192 + 1 * (k % 8192) = k % 8192
      rw [w.1.2]; omega
  rw [e]
  rfl

include hX hR in
/-- What a point writes back of the codes is its block of their array. -/
theorem flushed_codes (t : Fin cfg0.N) : (Fr.dat0 V c).flushed 1 t = ((cfg0.win 1).blk t).view.read (Elt Ideal) (GC X MR) := by
  have hN : t.val < 64 := lt_of_lt_of_eq t.isLt N_0
  show (cfg0.win 1).cut (grid0.coords t) ((Fr.dat0 V c).after 1 t) = _
  rw [Fr.after0_1]
  unfold Fr.outsAt0
  dsimp only
  rw [out_codes]
  funext y
  have h0 : (y 0).val < 64 := lt_of_lt_of_eq (y 0).isLt (size_0 t).1.1
  have h1 : (y 1).val < 8192 := lt_of_lt_of_eq (y 1).isLt (size_0 t).1.2
  have e0 : (((cfg0.win 1).blk t).view.emb y 0).val = 64 * t.val + (y 0).val := by
    show win0_1.index t 0 * 64 + 1 * (y 0).val = _
    rw [(where_0 t).2.1.1]; omega
  have e1 : (((cfg0.win 1).blk t).view.emb y 1).val = (y 1).val := by
    show win0_1.index t 1 * 8192 + 1 * (y 1).val = _
    rw [(where_0 t).2.1.2]; omega
  refine (code_blk (Fr.iblk0 V c 0 t) (rowA X (64 * t.val + (y 0).val)) (MR (64 * t.val + (y 0).val)) (hR _ (by omega))
    (fun a => match a with | 0 => ⟨(y 0).val, h0⟩ | 1 => ⟨(y 1).val, h1⟩) (row_blk V c X hX t _ h0)).trans ?_
  show _ = GC X MR (((cfg0.win 1).blk t).view.emb y)
  unfold GC
  rw [e0, e1]

include hX hR in
/-- The same of the codes as values. -/
theorem flushed_vals (t : Fin cfg0.N) : (Fr.dat0 V c).flushed 2 t = ((cfg0.win 2).blk t).view.read (Elt Ideal) (GV X MR) := by
  have hN : t.val < 64 := lt_of_lt_of_eq t.isLt N_0
  show (cfg0.win 2).cut (grid0.coords t) ((Fr.dat0 V c).after 2 t) = _
  rw [Fr.after0_2]
  unfold Fr.outsAt0
  dsimp only
  rw [out_vals]
  funext y
  have h0 : (y 0).val < 64 := lt_of_lt_of_eq (y 0).isLt (size_0 t).2.1.1
  have h1 : (y 1).val < 8192 := lt_of_lt_of_eq (y 1).isLt (size_0 t).2.1.2
  have e0 : (((cfg0.win 2).blk t).view.emb y 0).val = 64 * t.val + (y 0).val := by
    show win0_2.index t 0 * 64 + 1 * (y 0).val = _
    rw [(where_0 t).2.2.1.1]; omega
  have e1 : (((cfg0.win 2).blk t).view.emb y 1).val = (y 1).val := by
    show win0_2.index t 1 * 8192 + 1 * (y 1).val = _
    rw [(where_0 t).2.2.1.2]; omega
  refine (congrArg (FloatOps.sitofp (F := Ideal) .bf16) (code_blk (Fr.iblk0 V c 0 t) (rowA X (64 * t.val + (y 0).val)) (MR (64 * t.val + (y 0).val)) (hR _ (by omega))
    (fun a => match a with | 0 => ⟨(y 0).val, h0⟩ | 1 => ⟨(y 1).val, h1⟩) (row_blk V c X hX t _ h0))).trans ?_
  show _ = GV X MR (((cfg0.win 2).blk t).view.emb y)
  unfold GV GC
  rw [e0, e1]

include hX hR in
/-- The same of the scales. -/
theorem flushed_scales (t : Fin cfg0.N) : (Fr.dat0 V c).flushed 3 t = ((cfg0.win 3).blk t).view.read (Elt Ideal) (GS MR) := by
  have hN : t.val < 64 := lt_of_lt_of_eq t.isLt N_0
  show (cfg0.win 3).cut (grid0.coords t) ((Fr.dat0 V c).after 3 t) = _
  rw [Fr.after0_3]
  unfold Fr.outsAt0
  dsimp only
  rw [out_scales]
  funext y
  have h0 : (y 0).val < 64 := lt_of_lt_of_eq (y 0).isLt (size_0 t).2.2.1
  have h1 : (y 1).val < 1 := lt_of_lt_of_eq (y 1).isLt (size_0 t).2.2.2
  have e0 : (((cfg0.win 3).blk t).view.emb y 0).val = 64 * t.val + (y 0).val := by
    show win0_3.index t 0 * 64 + 1 * (y 0).val = _
    rw [(where_0 t).2.2.2.1]; omega
  refine (scale_blk (Fr.iblk0 V c 0 t) (rowA X (64 * t.val + (y 0).val)) (MR (64 * t.val + (y 0).val)) (hR _ (by omega))
    (fun a => match a with | 0 => ⟨(y 0).val, h0⟩ | 1 => ⟨(y 1).val, h1⟩) (row_blk V c X hX t _ h0)).trans ?_
  show _ = GS MR (((cfg0.win 3).blk t).view.emb y)
  unfold GS
  rw [e0]

/-- Every code lies in some point's block. -/
theorem cover_1 (i : S4096x8192.Idx) : ∃ t : Fin cfg0.N, (cfg0.win 1).flush t = true ∧ i ∈ ((cfg0.win 1).blk t).view.set := by
  have h0 : (i 0).val < 4096 := (i 0).isLt
  have h1 : (i 1).val < 8192 := (i 1).isLt
  have hN : cfg0.N = 64 := N_0
  refine ⟨⟨(i 0).val / 64, by omega⟩, flush0_1 _, ?_⟩
  generalize ht : (⟨(i 0).val / 64, by omega⟩ : Fin cfg0.N) = t
  have hv : t.val = (i 0).val / 64 := by rw [← ht]
  show i ∈ ((View.whole main_v1_0).slice (win0_1.rect t)).set
  rw [View.set_slice_whole, Rect.mem_set_unit]
  intro a
  match a with
  | 0 =>
    show win0_1.index t 0 * 64 ≤ (i 0).val ∧ (i 0).val < win0_1.index t 0 * 64 + win0_1.xsize (grid0.coords t) 0
    rw [(where_0 t).2.1.1, (size_0 t).1.1]; omega
  | 1 =>
    show win0_1.index t 1 * 8192 ≤ (i 1).val ∧ (i 1).val < win0_1.index t 1 * 8192 + win0_1.xsize (grid0.coords t) 1
    rw [(where_0 t).2.1.2, (size_0 t).1.2]; omega

/-- Every code as a value lies in some point's block. -/
theorem cover_2 (i : S4096x8192.Idx) : ∃ t : Fin cfg0.N, (cfg0.win 2).flush t = true ∧ i ∈ ((cfg0.win 2).blk t).view.set := by
  have h0 : (i 0).val < 4096 := (i 0).isLt
  have h1 : (i 1).val < 8192 := (i 1).isLt
  have hN : cfg0.N = 64 := N_0
  refine ⟨⟨(i 0).val / 64, by omega⟩, flush0_2 _, ?_⟩
  generalize ht : (⟨(i 0).val / 64, by omega⟩ : Fin cfg0.N) = t
  have hv : t.val = (i 0).val / 64 := by rw [← ht]
  show i ∈ ((View.whole main_v1_1).slice (win0_2.rect t)).set
  rw [View.set_slice_whole, Rect.mem_set_unit]
  intro a
  match a with
  | 0 =>
    show win0_2.index t 0 * 64 ≤ (i 0).val ∧ (i 0).val < win0_2.index t 0 * 64 + win0_2.xsize (grid0.coords t) 0
    rw [(where_0 t).2.2.1.1, (size_0 t).2.1.1]; omega
  | 1 =>
    show win0_2.index t 1 * 8192 ≤ (i 1).val ∧ (i 1).val < win0_2.index t 1 * 8192 + win0_2.xsize (grid0.coords t) 1
    rw [(where_0 t).2.2.1.2, (size_0 t).2.1.2]; omega

/-- Every scale lies in some point's block. -/
theorem cover_3 (i : S4096x1.Idx) : ∃ t : Fin cfg0.N, (cfg0.win 3).flush t = true ∧ i ∈ ((cfg0.win 3).blk t).view.set := by
  have h0 : (i 0).val < 4096 := (i 0).isLt
  have h1 : (i 1).val < 1 := (i 1).isLt
  have hN : cfg0.N = 64 := N_0
  refine ⟨⟨(i 0).val / 64, by omega⟩, flush0_3 _, ?_⟩
  generalize ht : (⟨(i 0).val / 64, by omega⟩ : Fin cfg0.N) = t
  have hv : t.val = (i 0).val / 64 := by rw [← ht]
  show i ∈ ((View.whole main_v1_2).slice (win0_3.rect t)).set
  rw [View.set_slice_whole, Rect.mem_set_unit]
  intro a
  match a with
  | 0 =>
    show win0_3.index t 0 * 64 ≤ (i 0).val ∧ (i 0).val < win0_3.index t 0 * 64 + win0_3.xsize (grid0.coords t) 0
    rw [(where_0 t).2.2.2.1, (size_0 t).2.2.1]; omega
  | 1 =>
    show win0_3.index t 1 * 1 ≤ (i 1).val ∧ (i 1).val < win0_3.index t 1 * 1 + win0_3.xsize (grid0.coords t) 1
    rw [(where_0 t).2.2.2.2, (size_0 t).2.2.2]; omega

include hX hR in
/-- After all the points the first output holds the codes. -/
theorem arr_codes : (Fr.dat0 V c).arrAt 1 cfg0.N = GC X MR :=
  (Fr.dat0 V c).arrAt_eq_of_cover 1 (GC X MR) (fun t _ => flushed_codes V c X hX MR hR t) cover_1

include hX hR in
/-- The second output holds the codes as values. -/
theorem arr_vals : (Fr.dat0 V c).arrAt 2 cfg0.N = GV X MR :=
  (Fr.dat0 V c).arrAt_eq_of_cover 2 (GV X MR) (fun t _ => flushed_vals V c X hX MR hR t) cover_2

include hX hR in
/-- The third output holds the scales. -/
theorem arr_scales : (Fr.dat0 V c).arrAt 3 cfg0.N = GS MR :=
  (Fr.dat0 V c).arrAt_eq_of_cover 3 (GS MR) (fun t _ => flushed_scales V c X hX MR hR t) cover_3

end Cert.KernelIdeal.A0

end
-- ==== Proof.Region1.lean ====
module

public import proofs.«01_k».proof.Proof.FrameKI
public import Idealize.ShloMosaic.PureOps.Ideal
public import Idealize.ShloMosaic.Lib.Pipeline.Value

@[expose] public section

set_option maxRecDepth 16384

noncomputable section

namespace Cert.KernelIdeal.R1

open Cert.KernelIdeal Cert.KernelIdeal.Gen
open Idealize.ShloMosaic Idealize.ShloMosaic.TcCoe

/-- 128 byte columns of the weights, from column `n` on. -/
def blkN (x1 : Vec Ideal S512x4096 .i8) (n : ℕ) : Vec Ideal S512x128 .i8 := fun i => x1 (fun a => match a with
  | 0 => ⟨(i 0).val, (i 0).isLt⟩
  | 1 => ⟨(n + (i 1).val) % 4096, Nat.mod_lt _ (by decide)⟩)

/-- Each byte's low nibble, moved to its high half: taken four bytes at a time. -/
def byteLo (v : Vec Ideal S512x128 .i8) : IVec S512x128 8 :=
  bitcast S512x128 8 (andi (shli (bitcast S128x128 32 v bitcasts_S512x128_w8_S128x128_w32) (broadcast S128x128 4#32)) (broadcast S128x128 4042322160#32)) bitcasts_S128x128_w32_S512x128_w8

/-- Each byte's high nibble, in place. -/
def byteHi (v : Vec Ideal S512x128 .i8) : IVec S512x128 8 :=
  bitcast S512x128 8 (andi (bitcast S128x128 32 v bitcasts_S512x128_w8_S128x128_w32) (broadcast S128x128 4042322160#32)) bitcasts_S128x128_w32_S512x128_w8

/-- The column of scale factors of group `n / 128`. -/
theorem slW {n : ℕ} (h : n < 8192) : S512x64.Slices ![0, n / 128] S512x1 :=
  ⟨rfl, fun a => match a with
    | 0 => (by decide : 0 + 512 ≤ 512)
    | 1 => (by omega : n / 128 + 1 ≤ 64)⟩

/-- The position of an index inside its group of 128 columns. -/
def jw (y : S512x8192.Idx) : S512x128.Idx := fun a => match a with
  | 0 => ⟨(y 0).val, (y 0).isLt⟩
  | 1 => ⟨(y 1).val % 128, Nat.mod_lt _ (by decide)⟩

/-- The position of an index's scale factor. -/
def js (y : S512x8192.Idx) : S512x64.Idx := fun a => match a with
  | 0 => ⟨(y 0).val, (y 0).isLt⟩
  | 1 => ⟨(y 1).val / 128, by have h : (y 1).val < 8192 := (y 1).isLt; exact (by omega : (y 1).val / 128 < 64)⟩

/-- The signed nibble at an index, times sixteen. -/
def nib (x1 : Vec Ideal S512x4096 .i8) (y : S512x8192.Idx) : FVec Ideal S512x128 .bf16 :=
  if (y 1).val < 4096 then sitofp .bf16 (byteLo (blkN x1 (128 * ((y 1).val / 128)))) else sitofp .bf16 (byteHi (blkN x1 (128 * ((y 1).val / 128) - 4096)))

/-- The dequantised weights the matrix product takes. -/
def wdG (x1 : Vec Ideal S512x4096 .i8) (x2 : Vec Ideal S512x64 .f32) : FVec Ideal S512x8192 .bf16 :=
  mulf (fun y => nib x1 y (jw y)) (fun y => k1_pay2 x2 (js y))

theorem wd_emb (x1 : Vec Ideal S512x4096 .i8) (x2 : Vec Ideal S512x64 .f32) {n : ℕ} (hn : n % 128 = 0) (h : n < 8192)
    {inb : ∀ a, (![0, n] : Fin 2 → ℕ) a + S512x128.size a ≤ S512x8192.size a} {B : FVec Ideal S512x128 .bf16}
    (hB : B = if n < 4096 then sitofp .bf16 (byteLo (blkN x1 n)) else sitofp .bf16 (byteHi (blkN x1 (n - 4096)))) (x : S512x128.Idx) :
    mulf B (broadcastTo S512x128 (extractStridedSlice S512x1 ![0, n / 128] (k1_pay2 x2) (slW h)) broadcasts_S512x1_S512x128) x
      = wdG x1 x2 ((Rect.unit (s := S512x8192) ![0, n] S512x128.size inb).emb x) := by
  have h1 : (x 1).val < 128 := (x 1).isLt
  have e0 : ((Rect.unit (s := S512x8192) ![0, n] S512x128.size inb).emb x 0).val = 0 + 1 * (x 0).val := rfl
  have e1 : ((Rect.unit (s := S512x8192) ![0, n] S512x128.size inb).emb x 1).val = n + 1 * (x 1).val := rfl
  generalize (Rect.unit (s := S512x8192) ![0, n] S512x128.size inb).emb x = y at e0 e1 ⊢
  have hb : B x = nib x1 y (jw y) := by
    have ej : jw y = x := funext fun a => Fin.ext (match a with
      | 0 => (show (y 0).val = (x 0).val by omega)
      | 1 => (show (y 1).val % 128 = (x 1).val by omega))
    rw [hB, ej]; unfold nib
    by_cases hc : n < 4096
    · rw [if_pos hc, if_pos (by omega), show 128 * ((y 1).val / 128) = n by omega]
    · rw [if_neg hc, if_neg (by omega), show 128 * ((y 1).val / 128) = n by omega]
  have hs : broadcastTo S512x128 (extractStridedSlice S512x1 ![0, n / 128] (k1_pay2 x2) (slW h)) broadcasts_S512x1_S512x128 x = k1_pay2 x2 (js y) := by
    refine (broadcastTo_apply _ _ x ((fun a => match a with | 0 => ⟨(x 0).val, (x 0).isLt⟩ | 1 => ⟨0, by decide⟩) : S512x1.Idx) fun a => ?_).trans ?_
    · match a with
      | 0 => rfl
      | 1 => rfl
    · refine extractStridedSlice_apply _ _ _ _ _ fun a => ?_
      match a with
      | 0 => exact (show (y 0).val = 0 + (x 0).val by omega)
      | 1 => exact (show (y 1).val / 128 = n / 128 + 0 by omega)
  exact congrArg₂ (fun a b : EReal => a * b) hb hs

/-- A piece from low nibbles, on top of pieces that agree with the weights. -/
theorem pieceLo (x1 : Vec Ideal S512x4096 .i8) (x2 : Vec Ideal S512x64 .f32) {n : ℕ} (hn : n % 128 = 0) (h : n < 4096)
    {inb : ∀ a, (![0, n] : Fin 2 → ℕ) a + S512x128.size a ≤ S512x8192.size a} {v : FVec Ideal S512x128 .bf16}
    {L : List (View.Piece (Elt Ideal) S512x8192 .bf16)} (hL : ∀ p ∈ L, ∀ x, p.2 x = wdG x1 x2 (p.1.emb x))
    (hv : v = mulf (sitofp .bf16 (byteLo (blkN x1 n))) (broadcastTo S512x128 (extractStridedSlice S512x1 ![0, n / 128] (k1_pay2 x2) (slW (by omega))) broadcasts_S512x1_S512x128)) :
    ∀ p ∈ (⟨Rect.unit (s := S512x8192) ![0, n] S512x128.size inb, v⟩ : View.Piece (Elt Ideal) S512x8192 .bf16) :: L, ∀ x, p.2 x = wdG x1 x2 (p.1.emb x) :=
  List.forall_mem_cons.mpr ⟨fun x => (congrFun hv x).trans (wd_emb x1 x2 (inb := inb) hn (by omega) (if_pos h).symm x), hL⟩

/-- A piece from high nibbles. -/
theorem pieceHi (x1 : Vec Ideal S512x4096 .i8) (x2 : Vec Ideal S512x64 .f32) {n : ℕ} (hn : n % 128 = 0) (h : 4096 ≤ n) (h' : n < 8192)
    {inb : ∀ a, (![0, n] : Fin 2 → ℕ) a + S512x128.size a ≤ S512x8192.size a} {v : FVec Ideal S512x128 .bf16}
    {L : List (View.Piece (Elt Ideal) S512x8192 .bf16)} (hL : ∀ p ∈ L, ∀ x, p.2 x = wdG x1 x2 (p.1.emb x))
    (hv : v = mulf (sitofp .bf16 (byteHi (blkN x1 (n - 4096)))) (broadcastTo S512x128 (extractStridedSlice S512x1 ![0, n / 128] (k1_pay2 x2) (slW h')) broadcasts_S512x1_S512x128)) :
    ∀ p ∈ (⟨Rect.unit (s := S512x8192) ![0, n] S512x128.size inb, v⟩ : View.Piece (Elt Ideal) S512x8192 .bf16) :: L, ∀ x, p.2 x = wdG x1 x2 (p.1.emb x) :=
  List.forall_mem_cons.mpr ⟨fun x => (congrFun hv x).trans (wd_emb x1 x2 (inb := inb) hn h' (if_neg (by omega)).symm x), hL⟩

/-- A whole block read through its memref. -/
theorem rdWhole {s : Shape} {e : EltTy} (arg : Memref sig .tc .vmem s e) (harg : arg.IsWhole) (x : Vec Ideal s e) {off : Fin s.rank → ℕ} (h0 : off = fun _ => 0)
    (inb : ∀ a, off a + s.size a ≤ s.size a) :
    View.readAt (Elt Ideal) arg.view (Rect.unit (s := s) off s.size inb).toLoadRect (harg.unread x) = x := by
  subst h0
  rw [View.readAt_eq_ld, harg.read_unread]
  funext i
  refine congrArg x (funext fun a => Fin.ext ?_)
  exact (show 0 + 1 * (i a).val = (i a).val by omega)

theorem off2 : (![0, 0] : Fin 2 → ℕ) = fun _ => 0 := funext fun a => match a with
  | 0 => rfl
  | 1 => rfl

variable (c : Dev nD) (i : grid1.Coords) (arg2 : Memref sig .tc .vmem S512x8192 .bf16) (harg2 : arg2.IsWhole) (arg3 : Memref sig .tc .vmem S512x4096 .i8) (harg3 : arg3.IsWhole)
  (arg4 : Memref sig .tc .vmem S512x64 .f32) (harg4 : arg4.IsWhole) (arg5 : Memref sig .tc .vmem S512x1 .f32) (harg5 : arg5.IsWhole)
  (arg6 : Memref sig .tc .vmem S512x512 .bf16) (harg6 : arg6.IsWhole) (arg7 : Memref sig .tc .vmem S512x8192 .bf16) (harg7 : arg7.IsWhole)
  (x0 : Vec Ideal S512x8192 .bf16) (x1 : Vec Ideal S512x4096 .i8) (x2 : Vec Ideal S512x64 .f32) (x3 : Vec Ideal S512x1 .f32)

theorem rdW {n : ℕ} (inb : ∀ a, (![0, n] : Fin 2 → ℕ) a + S512x128.size a ≤ S512x4096.size a) :
    View.readAt (Elt Ideal) arg3.view (Rect.unit (s := S512x4096) ![0, n] S512x128.size inb).toLoadRect (harg3.unread x1) = blkN x1 n := by
  rw [View.readAt_eq_ld, harg3.read_unread]
  funext x
  have h1 : (x 1).val < 128 := (x 1).isLt
  have hb : n + 128 ≤ 4096 := inb 1
  refine congrArg x1 (funext fun a => ?_)
  match a with
  | 0 => exact Fin.ext (show 0 + 1 * (x 0).val = (x 0).val by omega)
  | 1 => exact Fin.ext (show n + 1 * (x 1).val = (n + (x 1).val) % 4096 by omega)

/-- All that is stored into the scratch agrees with the dequantised weights. -/
theorem wd_agree : ∀ p ∈ Fr.kernelRun1_A.sl.HS0_64 (F := Ideal) c arg3 harg3 arg4 harg4 x1 x2, ∀ x, p.2 x = wdG x1 x2 (p.1.emb x) := by
  unfold Fr.kernelRun1_A.sl.HS0_64
  iterate 32
    refine pieceHi x1 x2 rfl (by decide) (by decide) ?_ ?_
    refine pieceLo x1 x2 rfl (by decide) ?_ ?_
  · exact fun p hp => absurd hp List.not_mem_nil
  all_goals
    simp -proj only [Fr.kernelRun1_A.sl.r, Fr.kernelRun1_A.sl.r_1, Fr.kernelRun1_A.sl.r_2, Fr.kernelRun1_A.sl.r_3, Fr.kernelRun1_A.sl.r_4, Fr.kernelRun1_A.sl.r_5, Fr.kernelRun1_A.sl.r_6, Fr.kernelRun1_A.sl.r_7, Fr.kernelRun1_A.sl.r_8, Fr.kernelRun1_A.sl.r_9, Fr.kernelRun1_A.sl.r_10, Fr.kernelRun1_A.sl.r_11, Fr.kernelRun1_A.sl.r_12, Fr.kernelRun1_A.sl.r_13, Fr.kernelRun1_A.sl.r_14, Fr.kernelRun1_A.sl.r_15, Fr.kernelRun1_A.sl.r_16, Fr.kernelRun1_A.sl.r_17, Fr.kernelRun1_A.sl.r_18, Fr.kernelRun1_A.sl.r_19, Fr.kernelRun1_A.sl.r_20, Fr.kernelRun1_A.sl.r_21, Fr.kernelRun1_A.sl.r_22, Fr.kernelRun1_A.sl.r_23, Fr.kernelRun1_A.sl.r_24, Fr.kernelRun1_A.sl.r_25, Fr.kernelRun1_A.sl.r_26, Fr.kernelRun1_A.sl.r_27, Fr.kernelRun1_A.sl.r_28, Fr.kernelRun1_A.sl.r_29, Fr.kernelRun1_A.sl.r_30,
      k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, k1_pay108, k1_pay109, k1_pay110, k1_pay111, k1_pay112, k1_pay113, k1_pay114, k1_pay115, k1_pay116, k1_pay117, k1_pay118, k1_pay119, k1_pay120, k1_pay121, k1_pay122, k1_pay123, k1_pay124, rdW arg3 harg3 x1, rdWhole arg4 harg4 x2 off2, shapeCast_self]
    rfl

/-- What one point of the grid stores: its block of the product, scaled. -/
def mmB : FVec Ideal S512x512 .bf16 := k1_pay1 x0 (wdG x1 x2) x3

theorem one_piece {L : List (View.Piece (Elt Ideal) S512x512 .bf16)} {v w : FVec Ideal S512x512 .bf16}
    (hL : L = [⟨Rect.unit (s := S512x512) ![0, 0] S512x512.size inb_S512x512_S512x512_0_0, v⟩]) (hv : v = w) : View.canon L = w := by
  subst hL hv
  funext x
  have h := View.canon_cons_emb (Val := Elt Ideal) (e := .bf16) (Rect.unit (s := S512x512) ![0, 0] S512x512.size inb_S512x512_S512x512_0_0) v [] x
  have ex : (Rect.unit (s := S512x512) ![0, 0] S512x512.size inb_S512x512_S512x512_0_0).emb x = x := by
    funext a
    refine Fin.ext ?_
    match a with
    | 0 => exact (show 0 + 1 * (x 0).val = (x 0).val by omega)
    | 1 => exact (show 0 + 1 * (x 1).val = (x 1).val by omega)
  rw [ex] at h
  exact h

theorem scratch_eq : Fr.kernelRun1_A.sl.v838 (F := Ideal) c arg3 harg3 arg4 harg4 arg7 x1 x2 = wdG x1 x2 := by
  unfold Fr.kernelRun1_A.sl.v838
  rw [View.readCov_eq_canon']
  funext y
  have ey : (Rect.unit (s := S512x8192) ![0, 0] S512x8192.size inb_S512x8192_S512x8192_0_0).toLoadRect.idx y = y := funext fun a => Fin.ext (match a with
    | 0 => (show 0 + 1 * (y 0).val = (y 0).val by omega)
    | 1 => (show 0 + 1 * (y 1).val = (y 1).val by omega))
  rw [ey]
  exact View.canon_apply_of_pieces _ _ (wd_agree c arg3 harg3 arg4 harg4 x1 x2) y (View.cover_of_tiledL (Fr.kernelRun1_A.sl.HS0_64 (F := Ideal) c arg3 harg3 arg4 harg4 x1 x2) S512x128.size (by sl_kernel_rfl) y)

theorem lhs_eq : Fr.kernelRun1_A.sl.r_31 (F := Ideal) c arg2 harg2 x0 = x0 := by
  unfold Fr.kernelRun1_A.sl.r_31 k1_pay125
  simp -proj only [rdWhole arg2 harg2 x0 off2, shapeCast_self]

theorem out_mm : Fr.out1_A_4 c i arg2 harg2 arg3 harg3 arg4 harg4 arg5 harg5 arg6 harg6 arg7 harg7 x0 x1 x2 x3 = mmB x0 x1 x2 x3 := by
  have hc := Fr.cover1_A_4 c i arg2 harg2 arg3 harg3 arg4 harg4 arg5 harg5 arg6 harg6 arg7 harg7 x0 x1 x2 x3
  unfold Fr.out1_A_4
  rw [View.read_writes_eq_canon _ _ _ hc]
  have hw := scratch_eq c arg3 harg3 arg4 harg4 arg7 x1 x2
  have hx := lhs_eq c arg2 harg2 x0
  have h5 : View.readAt (Elt Ideal) arg5.view (Rect.unit (s := S512x1) ![0, 0] S512x1.size inb_S512x1_S512x1_0_0).toLoadRect (harg5.unread x3) = x3 := rdWhole arg5 harg5 x3 off2 _
  refine one_piece (v := k1_pay1 (Fr.kernelRun1_A.sl.r_31 (F := Ideal) c arg2 harg2 x0) (Fr.kernelRun1_A.sl.v838 (F := Ideal) c arg3 harg3 arg4 harg4 arg7 x1 x2)
    (View.readAt (Elt Ideal) arg5.view (Rect.unit (s := S512x1) ![0, 0] S512x1.size inb_S512x1_S512x1_0_0).toLoadRect (harg5.unread x3))) ?_ ?_
  · unfold Fr.kernelRun1_A
    rfl
  · rw [hw, hx, h5]; rfl

end Cert.KernelIdeal.R1

end
-- ==== Proof.Nibbles.lean ====
module

public import proofs.«01_k».proof.Proof.Region1
public import Idealize.ShloMosaic.Lib.BitcastFour

@[expose] public section

set_option maxRecDepth 16384

noncomputable section

namespace Cert.KernelIdeal.R1

open Cert.KernelIdeal Cert.KernelIdeal.Gen
open Idealize.ShloMosaic Idealize.ShloMosaic.TcCoe

/-! The nibbles, byte by byte: the shift and the mask over words of four bytes act on each byte alone. -/

theorem mask_bit : ∀ q : Fin 32, (4042322160#32).getLsbD q.val = (240#8).getLsbD (q.val % 8) := by decide

theorem mask_low : ∀ q : Fin 8, q.val < 4 → (240#8).getLsbD q.val = false := by decide

/-- The word that holds a byte's row, and the byte's own index. -/
def jq (y : S512x128.Idx) : S128x128.Idx := fun a => match a with
  | 0 => ⟨(y 0).val / 4, by have h : (y 0).val < 512 := (y 0).isLt; exact (by omega : (y 0).val / 4 < 128)⟩
  | 1 => ⟨(y 1).val, (y 1).isLt⟩

theorem up_bit (x : IVec S128x128 32) (y : S512x128.Idx) (q : ℕ) (hq : q < 8) :
    (bitcast S512x128 8 x bitcasts_S128x128_w32_S512x128_w8 y).getLsbD q = (x (jq y)).getLsbD (8 * ((y 0).val % 4) + q) := by
  have h0 : (y 0).val < 512 := (y 0).isLt
  rw [bitcast_getLsbD x bitcasts_S128x128_w32_S512x128_w8 y q hq (by decide)]
  have er : Shape.row S512x128 y = (y 0).val := rfl
  have e2 : ((y 0).val * 8 + q) % 32 = 8 * ((y 0).val % 4) + q := by omega
  refine congrArg₂ BitVec.getLsbD (congrArg x (funext fun a => Fin.ext ?_)) (by rw [er]; exact e2)
  match a with
  | 0 =>
    refine (bitcasts_S128x128_w32_S512x128_w8.srcIdx_row _ _ _ (0 : Fin 2) rfl).trans ?_
    show ((y 0).val * 8 + q) / 32 = (y 0).val / 4
    omega
  | 1 => exact bitcasts_S128x128_w32_S512x128_w8.srcIdx_other _ _ _ (1 : Fin 2) (by show ¬ 1 + 2 = 2; omega)

theorem down_bit (v : Vec Ideal S512x128 .i8) (y : S512x128.Idx) (q : ℕ) (hq : q < 8) :
    (bitcast S128x128 32 (v : IVec S512x128 8) bitcasts_S512x128_w8_S128x128_w32 (jq y)).getLsbD (8 * ((y 0).val % 4) + q) = BitVec.getLsbD (v y : BitVec 8) q := by
  have h0 : (y 0).val < 512 := (y 0).isLt
  rw [bitcast_getLsbD (v : IVec S512x128 8) bitcasts_S512x128_w8_S128x128_w32 (jq y) _ (by omega) (by decide)]
  have er : Shape.row S128x128 (jq y) = (y 0).val / 4 := rfl
  have e2 : ((y 0).val / 4 * 32 + (8 * ((y 0).val % 4) + q)) % 8 = q := by omega
  refine congrArg₂ BitVec.getLsbD (congrArg v (funext fun a => Fin.ext ?_)) (by rw [er]; exact e2)
  match a with
  | 0 =>
    refine (bitcasts_S512x128_w8_S128x128_w32.srcIdx_row _ _ _ (0 : Fin 2) rfl).trans ?_
    show ((y 0).val / 4 * 32 + (8 * ((y 0).val % 4) + q)) / 8 = (y 0).val
    omega
  | 1 => exact bitcasts_S512x128_w8_S128x128_w32.srcIdx_other _ _ _ (1 : Fin 2) (by show ¬ 1 + 2 = 2; omega)

theorem byteHi_apply (v : Vec Ideal S512x128 .i8) (y : S512x128.Idx) : byteHi v y = (v y : BitVec 8) &&& 240#8 := by
  apply BitVec.eq_of_getLsbD_eq
  intro q hq
  unfold byteHi
  rw [up_bit _ y q hq]
  show (bitcast S128x128 32 (v : IVec S512x128 8) bitcasts_S512x128_w8_S128x128_w32 (jq y) &&& 4042322160#32).getLsbD _ = _
  rw [BitVec.getLsbD_and, BitVec.getLsbD_and, down_bit v y q hq, mask_bit ⟨8 * ((y 0).val % 4) + q, by omega⟩]
  rw [show (8 * ((y 0).val % 4) + q) % 8 = q by omega]

theorem byteLo_apply (v : Vec Ideal S512x128 .i8) (y : S512x128.Idx) : byteLo v y = (v y : BitVec 8) <<< 4 := by
  apply BitVec.eq_of_getLsbD_eq
  intro q hq
  unfold byteLo
  rw [up_bit _ y q hq]
  show (bitcast S128x128 32 (v : IVec S512x128 8) bitcasts_S512x128_w8_S128x128_w32 (jq y) <<< 4 &&& 4042322160#32).getLsbD _ = _
  rw [BitVec.getLsbD_and, mask_bit ⟨8 * ((y 0).val % 4) + q, by omega⟩, BitVec.getLsbD_shiftLeft, BitVec.getLsbD_shiftLeft]
  dsimp only
  rw [show (8 * ((y 0).val % 4) + q) % 8 = q by omega]
  by_cases h4 : q < 4
  · rw [mask_low ⟨q, hq⟩ h4]
    simp [h4]
  · rw [show 8 * ((y 0).val % 4) + q - 4 = 8 * ((y 0).val % 4) + (q - 4) by omega, down_bit v y (q - 4) (by omega)]
    have hm : (240#8).getLsbD q = true := by
      have : ∀ q : Fin 8, ¬ q.val < 4 → (240#8).getLsbD q.val = true := by decide
      exact this ⟨q, hq⟩ h4
    rw [hm]
    simp [h4, hq, show 8 * ((y 0).val % 4) + q < 32 by omega, show ¬ 8 * ((y 0).val % 4) + q < 4 by omega]

end Cert.KernelIdeal.R1

end
-- ==== Proof.Weights.lean ====
module

public import proofs.«01_k».proof.Proof.Quantiser

@[expose] public section

set_option maxRecDepth 16384

noncomputable section

namespace Cert.Math

open Idealize.ShloMosaic

/-! The dequantised weights and the product, as sums over the columns. -/

/-- The signed low nibble of a byte, as the reference computes it. -/
def loN (b : BitVec 8) : BitVec 32 :=
  IntOp.subi (IntOp.andi (b.setWidth 32) 15#32) (IntOp.muli 16#32 ((IntOp.cmpi .sge (IntOp.andi (b.setWidth 32) 15#32) 8#32).setWidth 32))

/-- The signed high nibble of a byte, as the reference computes it. -/
def hiN (b : BitVec 8) : BitVec 32 :=
  IntOp.subi (IntOp.shrsi .host (b.setWidth 32) 4#32) (IntOp.muli 16#32 ((IntOp.cmpi .sge (IntOp.shrsi .host (b.setWidth 32) 4#32) 8#32).setWidth 32))

/-- The low nibble shifted up is sixteen times its signed value: at each byte. -/
theorem lo_all : ∀ n : Fin 256, ((BitVec.ofFin n : BitVec 8) <<< 4).toInt = 16 * (loN (BitVec.ofFin n)).toInt := by decide +kernel

/-- The high nibble in place is sixteen times its signed value: at each byte. -/
theorem hi_all : ∀ n : Fin 256, ((BitVec.ofFin n : BitVec 8) &&& 240#8).toInt = 16 * (hiN (BitVec.ofFin n)).toInt := by decide +kernel

/-- The same, of any byte. -/
theorem lo_int (b : BitVec 8) : (b <<< 4).toInt = 16 * (loN b).toInt := lo_all b.toFin

/-- The same, of any byte. -/
theorem hi_int (b : BitVec 8) : (b &&& 240#8).toInt = 16 * (hiN b).toInt := hi_all b.toFin

/-- Widening with the sign keeps the number: at each byte. -/
theorem sext_all : ∀ n : Fin 256, ((BitVec.ofFin n : BitVec 8).signExtend 32).toInt = (BitVec.ofFin n : BitVec 8).toInt := by decide +kernel

/-- The same, of any byte. -/
theorem sext_int (b : BitVec 8) : (b.signExtend 32).toInt = b.toInt := sext_all b.toFin

/-- A number as a value. -/
def zE (n : ℤ) : EReal := ((n : ℝ) : EReal)

/-- Sixteen times a number, by a sixteenth of a scale, is the number by the scale: at every scale. -/
theorem sixteenth (n : ℤ) (w : EReal) : zE (16 * n) * (w * (((1 : ℝ) / 16 : ℝ) : EReal)) = zE n * w := by
  have h : zE (16 * n) * (((1 : ℝ) / 16 : ℝ) : EReal) = zE n := by
    unfold zE
    rw [← EReal.coe_mul]
    congr 1
    push_cast
    ring
  rw [mul_comm w, ← mul_assoc, h]

/-- The constant of the kernel. -/
theorem c_sixteenth : Ideal.ofBits .bf16 0x3D80#16 = (((1 : ℝ) / 16 : ℝ) : EReal) := by
  simp [Ideal.ofBits, Ideal.ieee, -EReal.coe_mul, -EReal.coe_neg]; norm_num

/-- The weight of a column, from its row's bytes and its groups' scales. -/
def wE (byt : ℕ → BitVec 8) (sc : ℕ → EReal) (k : ℕ) : EReal :=
  if k < 4096 then zE (loN (byt k)).toInt * sc (k / 128) else zE (hiN (byt (k - 4096))).toInt * sc (k / 128)

/-- One entry of the result: the product's sum, scaled. -/
def outE (cb w : ℕ → EReal) (s : EReal) : EReal := (∑ k ∈ Finset.range 8192, cb k * w k) * s

/-- A sum split in two. -/
theorem sum_split {N n m : ℕ} (h : N = n + m) (f : ℕ → EReal) :
    ∑ k ∈ Finset.range N, f k = (∑ k : Fin n, f k.val) + ∑ k : Fin m, f (n + k.val) := by
  subst h
  rw [Finset.sum_range_add, Finset.sum_range, Finset.sum_range]

/-- A sum over the columns of a block. -/
theorem sum_fin {N : ℕ} (f : ℕ → EReal) : ∑ k : Fin N, f k.val = ∑ k ∈ Finset.range N, f k := (Finset.sum_range f).symm

/-- An entry of the result by the two halves of its columns. -/
theorem outE_split (cb w : ℕ → EReal) (s : EReal) :
    outE cb w s = ((∑ k : Fin 4096, cb k.val * w k.val) + ∑ k : Fin 4096, cb (4096 + k.val) * w (4096 + k.val)) * s := by
  unfold outE
  rw [sum_split (n := 4096) (m := 4096) (by omega)]

end Cert.Math

end
-- ==== Proof.KernelMat.lean ====
module

public import proofs.«01_k».proof.Proof.Nibbles
public import proofs.«01_k».proof.Proof.Weights
public import Idealize.ShloMosaic.Lib.MatmulPlain

@[expose] public section

set_option maxRecDepth 16384

noncomputable section

namespace Cert.KernelIdeal.R1

open Cert.KernelIdeal Cert.KernelIdeal.Gen
open Idealize.ShloMosaic Idealize.ShloMosaic.TcCoe Idealize.ShloMosaic.ValueIdx Cert.Math

/-! One point of the second region: its block of the product, entry by entry. -/

/-- One row's bytes, in a block. -/
def bbyt (x1 : Vec Ideal S512x4096 .i8) (o : ℕ) : ℕ → BitVec 8 := fun c => x1 (fun a => match a with
  | 0 => ⟨o % 512, Nat.mod_lt _ (by decide)⟩
  | 1 => ⟨c % 4096, Nat.mod_lt _ (by decide)⟩)

/-- One row's scales, in a block. -/
def bsc (x2 : Vec Ideal S512x64 .f32) (o : ℕ) : ℕ → EReal := fun g => x2 (fun a => match a with
  | 0 => ⟨o % 512, Nat.mod_lt _ (by decide)⟩
  | 1 => ⟨g % 64, Nat.mod_lt _ (by decide)⟩)

/-- One row's codes, in a block. -/
def bcode (x0 : Vec Ideal S512x8192 .bf16) (t : ℕ) : ℕ → EReal := fun k => x0 (fun a => match a with
  | 0 => ⟨t % 512, Nat.mod_lt _ (by decide)⟩
  | 1 => ⟨k % 8192, Nat.mod_lt _ (by decide)⟩)

/-- One row's scale, in a block. -/
def brs (x3 : Vec Ideal S512x1 .f32) (t : ℕ) : EReal := x3 (fun a => match a with
  | 0 => ⟨t % 512, Nat.mod_lt _ (by decide)⟩
  | 1 => ⟨0, by decide⟩)

/-- The dequantised weights of a block, entry by entry. -/
theorem wd_val (x1 : Vec Ideal S512x4096 .i8) (x2 : Vec Ideal S512x64 .f32) (y : S512x8192.Idx) :
    wdG x1 x2 y = wE (bbyt x1 (y 0).val) (bsc x2 (y 0).val) (y 1).val := by
  have h0 : (y 0).val < 512 := (y 0).isLt
  have h1 : (y 1).val < 8192 := (y 1).isLt
  have hs : k1_pay2 x2 (js y) = bsc x2 (y 0).val ((y 1).val / 128) * (((1 : ℝ) / 16 : ℝ) : EReal) := by
    have e : x2 (js y) = bsc x2 (y 0).val ((y 1).val / 128) := congrArg x2 (funext fun a => Fin.ext (match a with
      | 0 => (show (y 0).val = (y 0).val % 512 by omega)
      | 1 => (show (y 1).val / 128 = (y 1).val / 128 % 64 by omega)))
    rw [← e, ← c_sixteenth]
    rfl
  have hm : wdG x1 x2 y = nib x1 y (jw y) * k1_pay2 x2 (js y) := rfl
  rw [hm, hs]
  unfold nib wE
  by_cases hc : (y 1).val < 4096
  · rw [if_pos hc, if_pos hc]
    have hb : byteLo (blkN x1 (128 * ((y 1).val / 128))) (jw y) = bbyt x1 (y 0).val (y 1).val <<< 4 := by
      rw [byteLo_apply]
      refine congrArg (fun b : BitVec 8 => b <<< 4) (congrArg x1 (funext fun a => Fin.ext ?_))
      match a with
      | 0 => exact (show (y 0).val = (y 0).val % 512 by omega)
      | 1 => exact (show (128 * ((y 1).val / 128) + (y 1).val % 128) % 4096 = (y 1).val % 4096 by omega)
    have hv : sitofp (F := Ideal) .bf16 (byteLo (blkN x1 (128 * ((y 1).val / 128)))) (jw y) = zE (16 * (loN (bbyt x1 (y 0).val (y 1).val)).toInt) := by
      rw [← lo_int, ← hb]
      rfl
    rw [hv, sixteenth]
  · rw [if_neg hc, if_neg hc]
    have hb : byteHi (blkN x1 (128 * ((y 1).val / 128) - 4096)) (jw y) = bbyt x1 (y 0).val ((y 1).val - 4096) &&& 240#8 := by
      rw [byteHi_apply]
      refine congrArg (fun b : BitVec 8 => b &&& 240#8) (congrArg x1 (funext fun a => Fin.ext ?_))
      match a with
      | 0 => exact (show (y 0).val = (y 0).val % 512 by omega)
      | 1 => exact (show (128 * ((y 1).val / 128) - 4096 + (y 1).val % 128) % 4096 = ((y 1).val - 4096) % 4096 by omega)
    have hv : sitofp (F := Ideal) .bf16 (byteHi (blkN x1 (128 * ((y 1).val / 128) - 4096))) (jw y) = zE (16 * (hiN (bbyt x1 (y 0).val ((y 1).val - 4096))).toInt) := by
      rw [← hi_int, ← hb]
      rfl
    rw [hv, sixteenth]

/-- The product contracts the columns of both sides. -/
theorem dot_transposed : dot_S512x8192_S512x8192_S512x512_1_1_0_0_n_n = DotDims.transposedRhs 512 8192 512 := rfl

/-- The product of two blocks, at a row and a column. -/
theorem prod_val (x0 w : FVec Ideal S512x8192 .bf16) (y : S512x512.Idx) (f g : ℕ → EReal)
    (hf : ∀ z : S512x8192.Idx, (z 0).val = (y 0).val → x0 z = f (z 1).val) (hg : ∀ z : S512x8192.Idx, (z 0).val = (y 1).val → w z = g (z 1).val) :
    FloatOps.matmul (F := Ideal) dot_S512x8192_S512x8192_S512x512_1_1_0_0_n_n none x0 w (constant S512x512 .f32 0#32) y
      = ∑ k ∈ Finset.range 8192, f k * g k := by
  have hr : (y 0).val < 512 := (y 0).isLt
  have hc : (y 1).val < 512 := (y 1).isLt
  have ey : y = (ix2 (⟨(y 0).val, hr⟩ : Fin 512) (⟨(y 1).val, hc⟩ : Fin 512)) := funext fun a => match a with
    | 0 => rfl
    | 1 => rfl
  have h := Ideal.matmul_transposedRhs_apply (M := 512) (K := 8192) (N := 512) none x0 w (constant S512x512 .f32 0#32) ⟨(y 0).val, hr⟩ ⟨(y 1).val, hc⟩
  have hz : (constant S512x512 .f32 0#32 : FVec Ideal S512x512 .f32) (ix2 (⟨(y 0).val, hr⟩ : Fin 512) (⟨(y 1).val, hc⟩ : Fin 512)) = 0 := Ideal.ofBits_zero_f32
  rw [hz, zero_add] at h
  refine (congrArg (FloatOps.matmul (F := Ideal) dot_S512x8192_S512x8192_S512x512_1_1_0_0_n_n none x0 w (constant S512x512 .f32 0#32)) ey).trans (h.trans ?_)
  rw [← sum_fin]
  exact Finset.sum_congr rfl fun k _ => congrArg₂ (fun a b : EReal => a * b) (hf _ rfl) (hg _ rfl)

/-- What a point stores. -/
theorem mm_val (x0 : Vec Ideal S512x8192 .bf16) (x1 : Vec Ideal S512x4096 .i8) (x2 : Vec Ideal S512x64 .f32) (x3 : Vec Ideal S512x1 .f32) (y : S512x512.Idx) :
    mmB x0 x1 x2 x3 y = outE (bcode x0 (y 0).val) (wE (bbyt x1 (y 1).val) (bsc x2 (y 1).val)) (brs x3 (y 0).val) := by
  have h0 : (y 0).val < 512 := (y 0).isLt
  have hp := prod_val x0 (wdG x1 x2) y (bcode x0 (y 0).val) (wE (bbyt x1 (y 1).val) (bsc x2 (y 1).val))
    (fun z hz => by
      have z0 : (z 0).val < 512 := (z 0).isLt
      have z1 : (z 1).val < 8192 := (z 1).isLt
      refine congrArg x0 (funext fun a => Fin.ext ?_)
      match a with
      | 0 => exact (show (z 0).val = (y 0).val % 512 by omega)
      | 1 => exact (show (z 1).val = (z 1).val % 8192 by omega))
    (fun z hz => by rw [wd_val, hz])
  have hs : broadcastTo S512x512 (shapeCast S512x1 x3 shapeCasts_S512x1_S512x1) broadcasts_S512x1_S512x512 y = brs x3 (y 0).val := by
    rw [shapeCast_self]
    refine (broadcastTo_apply _ _ y ((fun a => match a with | 0 => ⟨(y 0).val, (y 0).isLt⟩ | 1 => ⟨0, by decide⟩) : S512x1.Idx) fun a => ?_).trans ?_
    · match a with
      | 0 => rfl
      | 1 => rfl
    · refine congrArg x3 (funext fun a => Fin.ext ?_)
      match a with
      | 0 => exact (show (y 0).val = (y 0).val % 512 by omega)
      | 1 => rfl
  unfold outE
  rw [← hp, ← hs]
  rfl

end Cert.KernelIdeal.R1

end
-- ==== Proof.Arrays1.lean ====
module

public import proofs.«01_k».proof.Proof.KernelMat

@[expose] public section

set_option maxRecDepth 16384

noncomputable section

namespace Cert.KernelIdeal.A1

open Cert.KernelIdeal Cert.KernelIdeal.Gen Cert.KernelIdeal.R1
open Idealize.ShloMosaic Idealize.ShloMosaic.TcCoe Cert.Math
open Idealize.ShloMosaic.Pipeline (Dat)

/-! What the second region's array holds after its 128 points. -/

/-- Where each window's block lies at a point: the tokens' blocks by the point's number over 16, the columns' by its remainder. -/
theorem where_1 : ∀ t : Fin cfg1.N, (win1_0.index t 0 = t.val / 16 ∧ win1_0.index t 1 = 0) ∧ (win1_1.index t 0 = t.val % 16 ∧ win1_1.index t 1 = 0)
    ∧ (win1_2.index t 0 = t.val % 16 ∧ win1_2.index t 1 = 0) ∧ (win1_3.index t 0 = t.val / 16 ∧ win1_3.index t 1 = 0)
    ∧ (win1_4.index t 0 = t.val / 16 ∧ win1_4.index t 1 = t.val % 16) := by
  decide +kernel

/-- Every block is whole. -/
theorem size_1 : ∀ t : Fin cfg1.N, win1_4.xsize (grid1.coords t) 0 = 512 ∧ win1_4.xsize (grid1.coords t) 1 = 512 := by
  decide +kernel

variable (V : (c : Dev nD) → (b : Ref sig .tc) → Buf (Elt Ideal) ((c : Thread nD τ).loc b)) (c : Dev nD)
  (A : Vec Ideal S4096x8192 .bf16) (hA : V c main_v1_1 = A) (B : Vec Ideal S8192x4096 .i8) (hB : V c main_arg1 = B)
  (S : Vec Ideal S8192x64 .f32) (hS : V c main_arg2 = S) (R : Vec Ideal S4096x1 .f32) (hR : V c main_v1_2 = R)

/-- One row of the codes. -/
def acode (t : ℕ) : ℕ → EReal := fun k => A (fun a => match a with
  | 0 => ⟨t % 4096, Nat.mod_lt _ (by decide)⟩
  | 1 => ⟨k % 8192, Nat.mod_lt _ (by decide)⟩)

/-- One output column's bytes. -/
def abyt (o : ℕ) : ℕ → BitVec 8 := fun k => B (fun a => match a with
  | 0 => ⟨o % 8192, Nat.mod_lt _ (by decide)⟩
  | 1 => ⟨k % 4096, Nat.mod_lt _ (by decide)⟩)

/-- One output column's scales. -/
def asc (o : ℕ) : ℕ → EReal := fun g => S (fun a => match a with
  | 0 => ⟨o % 8192, Nat.mod_lt _ (by decide)⟩
  | 1 => ⟨g % 64, Nat.mod_lt _ (by decide)⟩)

/-- One row's scale. -/
def ars (t : ℕ) : EReal := R (fun a => match a with
  | 0 => ⟨t % 4096, Nat.mod_lt _ (by decide)⟩
  | 1 => ⟨0, by decide⟩)

/-- The result's array. -/
def GO : Vec Ideal S4096x8192 .bf16 := fun i => outE (acode A (i 0).val) (wE (abyt B (i 1).val) (asc S (i 1).val)) (ars R (i 0).val)

include hA in
/-- A row of a point's block of codes is a row of their array. -/
theorem code_row (t : Fin cfg1.N) (r : ℕ) (hr : r < 512) : bcode (Fr.iblk1 V c 0 t) r = acode A (512 * (t.val / 16) + r) := by
  have hN : t.val < 128 := lt_of_lt_of_eq t.isLt N_1
  subst hA
  funext k
  have w := where_1 t
  unfold bcode acode Fr.iblk1
  rw [View.read_apply]
  refine congrArg (V c main_v1_1) (funext fun a => Fin.ext ?_)
  match a with
  | 0 =>
    show win1_0.index t 0 * 512 + 1 * (r % 512) = (512 * (t.val / 16) + r) % 4096
    rw [w.1.1]; omega
  | 1 =>
    show win1_0.index t 1 * 8192 + 1 * (k % 8192) = k % 8192
    rw [w.1.2]; omega

include hB in
/-- A row of a point's block of bytes is a row of their array. -/
theorem byte_row (t : Fin cfg1.N) (r : ℕ) (hr : r < 512) : bbyt (Fr.iblk1 V c 1 t) r = abyt B (512 * (t.val % 16) + r) := by
  have hN : t.val < 128 := lt_of_lt_of_eq t.isLt N_1
  subst hB
  funext k
  have w := where_1 t
  unfold bbyt abyt Fr.iblk1
  rw [View.read_apply]
  refine congrArg (V c main_arg1) (funext fun a => Fin.ext ?_)
  match a with
  | 0 =>
    show win1_1.index t 0 * 512 + 1 * (r % 512) = (512 * (t.val % 16) + r) % 8192
    rw [w.2.1.1]; omega
  | 1 =>
    show win1_1.index t 1 * 4096 + 1 * (k % 4096) = k % 4096
    rw [w.2.1.2]; omega

include hS in
/-- A row of a point's block of group scales is a row of their array. -/
theorem scale_row (t : Fin cfg1.N) (r : ℕ) (hr : r < 512) : bsc (Fr.iblk1 V c 2 t) r = asc S (512 * (t.val % 16) + r) := by
  have hN : t.val < 128 := lt_of_lt_of_eq t.isLt N_1
  subst hS
  funext k
  have w := where_1 t
  unfold bsc asc Fr.iblk1
  rw [View.read_apply]
  refine congrArg (V c main_arg2) (funext fun a => Fin.ext ?_)
  match a with
  | 0 =>
    show win1_2.index t 0 * 512 + 1 * (r % 512) = (512 * (t.val % 16) + r) % 8192
    rw [w.2.2.1.1]; omega
  | 1 =>
    show win1_2.index t 1 * 64 + 1 * (k % 64) = k % 64
    rw [w.2.2.1.2]; omega

include hR in
/-- A row's scale in a point's block is its scale in the array. -/
theorem rs_row (t : Fin cfg1.N) (r : ℕ) (hr : r < 512) : brs (Fr.iblk1 V c 3 t) r = ars R (512 * (t.val / 16) + r) := by
  have hN : t.val < 128 := lt_of_lt_of_eq t.isLt N_1
  subst hR
  have w := where_1 t
  unfold brs ars Fr.iblk1
  rw [View.read_apply]
  refine congrArg (V c main_v1_2) (funext fun a => Fin.ext ?_)
  match a with
  | 0 =>
    show win1_3.index t 0 * 512 + 1 * (r % 512) = (512 * (t.val / 16) + r) % 4096
    rw [w.2.2.2.1.1]; omega
  | 1 =>
    show win1_3.index t 1 * 1 + 1 * 0 = 0
    rw [w.2.2.2.1.2]

/-- What a point leaves in the result's block. -/
theorem left_blk (t : Fin cfg1.N) : (Fr.dat1 V c).after 4 t = mmB (Fr.iblk1 V c 0 t) (Fr.iblk1 V c 1 t) (Fr.iblk1 V c 2 t) (Fr.iblk1 V c 3 t) := by
  rw [Fr.after1_4]
  unfold Fr.outsAt1
  exact out_mm ..

/-- One entry of the array, by its row and its column. -/
def goE (r o : ℕ) : EReal := outE (acode A r) (wE (abyt B o) (asc S o)) (ars R r)

include hA hB hS hR in
/-- What a point computes, at the places its block has in the array. -/
theorem left_val (t : Fin cfg1.N) (z : S512x512.Idx) :
    mmB (Fr.iblk1 V c 0 t) (Fr.iblk1 V c 1 t) (Fr.iblk1 V c 2 t) (Fr.iblk1 V c 3 t) z = goE A B S R (512 * (t.val / 16) + (z 0).val) (512 * (t.val % 16) + (z 1).val) := by
  have h0 : (z 0).val < 512 := (z 0).isLt
  have h1 : (z 1).val < 512 := (z 1).isLt
  rw [mm_val, code_row V c A hA t _ h0, byte_row V c B hB t _ h1, scale_row V c S hS t _ h1, rs_row V c R hR t _ h0]
  rfl

/-- Where an entry of a point's block lies in the array. -/
theorem emb_out (t : Fin cfg1.N) (y : ((cfg1.win 4).xblock (cfg1.grid.coords t)).Idx) :
    (((cfg1.win 4).blk t).view.emb y 0).val = 512 * (t.val / 16) + (y 0).val ∧ (((cfg1.win 4).blk t).view.emb y 1).val = 512 * (t.val % 16) + (y 1).val := by
  constructor
  · show win1_4.index t 0 * 512 + 1 * (y 0).val = _
    rw [(where_1 t).2.2.2.2.1]; omega
  · show win1_4.index t 1 * 512 + 1 * (y 1).val = _
    rw [(where_1 t).2.2.2.2.2]; omega

include hA hB hS hR in
/-- What a point writes back is its block of the result's array. -/
theorem flushed_out (t : Fin cfg1.N) : (Fr.dat1 V c).flushed 4 t = ((cfg1.win 4).blk t).view.read (Elt Ideal) (GO A B S R) := by
  have hl := left_val V c A hA B hB S hS R hR t
  show (cfg1.win 4).cut (grid1.coords t) ((Fr.dat1 V c).after 4 t) = _
  rw [left_blk]
  generalize mmB (Fr.iblk1 V c 0 t) (Fr.iblk1 V c 1 t) (Fr.iblk1 V c 2 t) (Fr.iblk1 V c 3 t) = M at hl
  funext y
  have h0 : (y 0).val < 512 := lt_of_lt_of_eq (y 0).isLt (size_1 t).1
  have h1 : (y 1).val < 512 := lt_of_lt_of_eq (y 1).isLt (size_1 t).2
  obtain ⟨e0, e1⟩ := emb_out t y
  have hc : (cfg1.win 4).cut (grid1.coords t) M y = M (fun a => match a with | 0 => ⟨(y 0).val, h0⟩ | 1 => ⟨(y 1).val, h1⟩) :=
    congrArg M (funext fun a => match a with
      | 0 => rfl
      | 1 => rfl)
  rw [hc, hl]
  show goE A B S R (512 * (t.val / 16) + (y 0).val) (512 * (t.val % 16) + (y 1).val)
    = goE A B S R (((cfg1.win 4).blk t).view.emb y 0).val (((cfg1.win 4).blk t).view.emb y 1).val
  rw [e0, e1]

/-- Every entry of the result lies in some point's block. -/
theorem cover_4 (i : S4096x8192.Idx) : ∃ t : Fin cfg1.N, (cfg1.win 4).flush t = true ∧ i ∈ ((cfg1.win 4).blk t).view.set := by
  have h0 : (i 0).val < 4096 := (i 0).isLt
  have h1 : (i 1).val < 8192 := (i 1).isLt
  have hN : cfg1.N = 128 := N_1
  refine ⟨⟨16 * ((i 0).val / 512) + (i 1).val / 512, by omega⟩, flush1_4 _, ?_⟩
  generalize ht : (⟨16 * ((i 0).val / 512) + (i 1).val / 512, by omega⟩ : Fin cfg1.N) = t
  have hv : t.val = 16 * ((i 0).val / 512) + (i 1).val / 512 := by rw [← ht]
  show i ∈ ((View.whole main_v2).slice (win1_4.rect t)).set
  rw [View.set_slice_whole, Rect.mem_set_unit]
  intro a
  match a with
  | 0 =>
    show win1_4.index t 0 * 512 ≤ (i 0).val ∧ (i 0).val < win1_4.index t 0 * 512 + win1_4.xsize (grid1.coords t) 0
    rw [(where_1 t).2.2.2.2.1, (size_1 t).1]; omega
  | 1 =>
    show win1_4.index t 1 * 512 ≤ (i 1).val ∧ (i 1).val < win1_4.index t 1 * 512 + win1_4.xsize (grid1.coords t) 1
    rw [(where_1 t).2.2.2.2.2, (size_1 t).2]; omega

include hA hB hS hR in
/-- After all the points the output holds the result. -/
theorem arr_out : (Fr.dat1 V c).arrAt 4 cfg1.N = GO A B S R :=
  (Fr.dat1 V c).arrAt_eq_of_cover 4 (GO A B S R) (fun t _ => flushed_out V c A hA B hB S hS R hR t) cover_4

end Cert.KernelIdeal.A1

end
-- ==== Proof.RefQuant.lean ====
module

public import proofs.«01_k».proof.Proof.Gen.ReferenceIdeal.Read
public import proofs.«01_k».proof.Proof.Quantiser

@[expose] public section

set_option maxRecDepth 2000

noncomputable section

namespace Cert.ReferenceIdeal.Read

open Cert.ReferenceIdeal Cert.ReferenceIdeal.Gen Idealize.ShloMosaic Cert.Math

/-- The parity test of the sign matrix, at every row and column. -/
theorem parity_test : ∀ h g : Fin 64,
    (let n := IntOp.andi (BitVec.ofNat 32 h.val) (BitVec.ofNat 32 g.val)
    IntOp.cmpi .eq (IntOp.andi (IntOp.addi (IntOp.addi (IntOp.addi (IntOp.addi (IntOp.addi (IntOp.addi 0#32
      (IntOp.andi (IntOp.shrsi ArithUnit.host n 0#32) 1#32)) (IntOp.andi (IntOp.shrsi ArithUnit.host n 1#32) 1#32))
      (IntOp.andi (IntOp.shrsi ArithUnit.host n 2#32) 1#32)) (IntOp.andi (IntOp.shrsi ArithUnit.host n 3#32) 1#32))
      (IntOp.andi (IntOp.shrsi ArithUnit.host n 4#32) 1#32)) (IntOp.andi (IntOp.shrsi ArithUnit.host n 5#32) 1#32)) 1#32) 0#32)
    = if odd6 h.val g.val then 0#1 else 1#1 := by
  decide +kernel

theorem c_neg_one : Ideal.ofBits .f32 0xBF800000#32 = ((-1 : ℝ) : EReal) := by
  simp [Ideal.ofBits, Ideal.ieee, -EReal.coe_mul, -EReal.coe_neg]; norm_num

/-- The reference's sign matrix. -/
theorem had_val (i : S64x64.Idx) : val_main_v41 (F := Ideal) i = ((sgR (odd6 (i 0).val (i 1).val) : ℝ) : EReal) := by
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, val_main_v14_apply,
    val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply,
    val_main_c_apply, val_main_c_0_apply, val_main_c_1_apply, val_main_c_2_apply, val_main_c_3_apply, val_main_c_4_apply, val_main_c_5_apply,
    val_main_c_6_apply, val_main_c_7_apply, val_main_c_8_apply, val_main_c_9_apply, val_main_c_10_apply, val_main_c_11_apply, val_main_c_12_apply, val_main_c_13_apply,
    val_main_call0_v0_apply, val_main_call0_v1_apply]
  have hp := parity_test ⟨(i 0).val, (i 0).isLt⟩ ⟨(i 1).val, (i 1).isLt⟩
  simp only [] at hp
  rw [hp]
  by_cases h : odd6 (i 0).val (i 1).val = true
  · rw [if_pos h, val_main_cst_14_apply, h]
    exact c_neg_one
  · rw [if_neg h, val_main_cst_apply, (by simpa using h : odd6 (i 0).val (i 1).val = false)]
    exact Ideal.ofBits_one_f32

/-- An index of the input by its coordinates. -/
def i3 (b s c : ℕ) : S4x1024x8192.Idx := fun a => match a with
  | ⟨0, _⟩ => ⟨b % 4, Nat.mod_lt _ (by decide)⟩
  | ⟨1, _⟩ => ⟨s % 1024, Nat.mod_lt _ (by decide)⟩
  | ⟨2, _⟩ => ⟨c % 8192, Nat.mod_lt _ (by decide)⟩

/-- One token's row of the input. -/
def xrow (x0 : (⟨S4x1024x8192, .bf16⟩ : BufTy).Contents (Elt Ideal)) (b s : ℕ) : ℕ → EReal := fun c => x0 (i3 b s c)

/-- The rotated row. -/
theorem z_val (x0 : (⟨S4x1024x8192, .bf16⟩ : BufTy).Contents (Elt Ideal)) (i : S4x1024x8192.Idx) :
    val_main_v48 (F := Ideal) x0 i = rowZ (xrow x0 (i 0).val (i 1).val) (i 2).val := by
  have h0 : (i 0).val < 4 := (i 0).isLt
  have h1 : (i 1).val < 1024 := (i 1).isLt
  have h2 : (i 2).val < 8192 := (i 2).isLt
  rw [val_main_v48_apply, val_main_v47_apply, val_main_v46_apply, val_main_cst_15_apply, val_main_v45_apply, val_main_v44_apply,
    Ideal.mulf_def, Ideal.ofBits_def, c_eighth]
  unfold rowZ rowH hadE
  refine congrArg (· * (((1 : ℝ) / 8 : ℝ) : EReal)) (Finset.sum_congr rfl fun h _ => ?_)
  rw [had_val, val_main_v43_apply, val_main_v42_apply, Ideal.extf_def]
  have hh := h.isLt
  refine congrArg₂ (· * ·) (congrArg (fun n => ((sgR (odd6 h.val n) : ℝ) : EReal)) ?_) (congrArg x0 ?_)
  · show (((i 0).val * 1024 + (i 1).val) * 8192 + (i 2).val) / 128 % 64 = (i 2).val / 128
    omega
  · refine funext fun a => Fin.ext ?_
    have e0 : (((i 0).val * 1024 + (i 1).val) * 8192 + (i 2).val) / 8388608 = (i 0).val := by omega
    have e1 : (((i 0).val * 1024 + (i 1).val) * 8192 + (i 2).val) / 8192 % 1024 = (i 1).val := by omega
    have e2 : (((i 0).val * 1024 + (i 1).val) * 8192 + (i 2).val) % 128 = (i 2).val % 128 := by omega
    match a with
    | ⟨0, _⟩ =>
      show ((((((i 0).val * 1024 + (i 1).val) * 8192 + (i 2).val) / 8388608 * 1024 + (((i 0).val * 1024 + (i 1).val) * 8192 + (i 2).val) / 8192 % 1024) * 64 + h.val) * 128
        + (((i 0).val * 1024 + (i 1).val) * 8192 + (i 2).val) % 128) / 8388608 = (i 0).val % 4
      rw [e0, e1, e2]; omega
    | ⟨1, _⟩ =>
      show ((((((i 0).val * 1024 + (i 1).val) * 8192 + (i 2).val) / 8388608 * 1024 + (((i 0).val * 1024 + (i 1).val) * 8192 + (i 2).val) / 8192 % 1024) * 64 + h.val) * 128
        + (((i 0).val * 1024 + (i 1).val) * 8192 + (i 2).val) % 128) / 8192 % 1024 = (i 1).val % 1024
      rw [e0, e1, e2]; omega
    | ⟨2, _⟩ =>
      show ((((((i 0).val * 1024 + (i 1).val) * 8192 + (i 2).val) / 8388608 * 1024 + (((i 0).val * 1024 + (i 1).val) * 8192 + (i 2).val) / 8192 % 1024) * 64 + h.val) * 128
        + (((i 0).val * 1024 + (i 1).val) * 8192 + (i 2).val) % 128) % 8192 = (128 * h.val + (i 2).val % 128) % 8192
      rw [e0, e1, e2]; omega

/-- A fold of `max` over a row's absolute values. -/
theorem max_fold {n : ℕ} (hn : n = 8192) (f : Fin n → EReal) (g : ℕ → EReal) (h : ∀ c, f c = ab (g c.val)) :
    IsMx ((Finset.univ : Finset (Fin n)).fold max ⊥ f) g := by
  intro b
  rw [Finset.fold_max_le]
  refine ⟨fun hb c hc => ?_, fun hb => ⟨bot_le, fun c _ => ?_⟩⟩
  · have := hb.2 ⟨c, hn ▸ hc⟩ (Finset.mem_univ _)
    rwa [h] at this
  · rw [h]; exact hb c.val (hn ▸ c.isLt)

theorem reduces_row : S4x1024x8192.Reduces [2] S4x1024 := by decide

/-- The coordinates of the index a reduced row's column lifts to. -/
theorem lift_coord (j : S4x1024.Idx) (c : Fin (S4x1024x8192.size 2)) :
    (reduces_row.lift j c 0).val = (j 0).val ∧ (reduces_row.lift j c 1).val = (j 1).val ∧ (reduces_row.lift j c 2).val = c.val := by
  refine ⟨(reduces_row.lift_val j c 0).trans ?_, (reduces_row.lift_val j c 1).trans ?_, (reduces_row.lift_val j c 2).trans ?_⟩ <;> rfl

theorem abs_val (x0 : (⟨S4x1024x8192, .bf16⟩ : BufTy).Contents (Elt Ideal)) (i : S4x1024x8192.Idx) :
    val_main_v49 (F := Ideal) x0 i = ab (rowZ (xrow x0 (i 0).val (i 1).val) (i 2).val) := by
  rw [val_main_v49_apply, z_val]
  generalize rowZ _ _ = y
  rfl

theorem red_val (x : S4x1024x8192.Idx → EReal) (init : S_.Idx → EReal) (j : S4x1024.Idx) :
    Host.reduce (FloatOps.maximumf (F := Ideal) (φ := .f32)) x init reducesTo_S4x1024x8192_S4x1024_d2 h_S_ j
      = (Finset.univ : Finset (Fin (S4x1024x8192.size 2))).fold max (init (Shape.Idx.first h_S_)) (x ∘ reduces_row.lift j) :=
  Host.reduce_eq_fold_single (max : EReal → EReal → EReal) x init reducesTo_S4x1024x8192_S4x1024_d2 reduces_row h_S_ j

/-- The greatest absolute value of a row. -/
theorem max_val (x0 : (⟨S4x1024x8192, .bf16⟩ : BufTy).Contents (Elt Ideal)) (j : S4x1024.Idx) :
    IsMx (val_main_v50 (F := Ideal) x0 j) (rowZ (xrow x0 (j 0).val (j 1).val)) := by
  unfold val_main_v50
  rw [red_val, val_main_cst_16_apply, Ideal.ofBits_def, c_bot]
  refine max_fold (n := S4x1024x8192.size 2) rfl _ _ fun c => ?_
  obtain ⟨l0, l1, l2⟩ := lift_coord j c
  rw [Function.comp_apply, abs_val, l0, l1, l2]

/-- The scale of a row. -/
theorem scale_val (x0 : (⟨S4x1024x8192, .bf16⟩ : BufTy).Contents (Elt Ideal)) (j : S4x1024.Idx) :
    val_main_v55 (F := Ideal) x0 j = scE (val_main_v50 (F := Ideal) x0 j) := by
  rw [val_main_v55_apply, val_main_v52_apply, val_main_v51_apply, val_main_cst_17_apply, val_main_call1_v0_apply, val_main_cst_19_apply,
    val_main_v54_apply, val_main_v53_apply, val_main_cst_18_apply]
  generalize val_main_v50 (F := Ideal) x0 j = M
  rw [Ideal.ofBits_def, Ideal.ofBits_def, Ideal.ofBits_def, Ideal.hostDivf_def, c_seven, Ideal.ofBits_one_f32, Ideal.ofBits_zero_f32, Ideal.cmpf_def]
  exact sc_sel M

/-- The integer codes. -/
theorem code_val (x0 : (⟨S4x1024x8192, .bf16⟩ : BufTy).Contents (Elt Ideal)) (i : S4x1024x8192.Idx) (j : S4x1024.Idx) (h0 : (i 0).val = (j 0).val) (h1 : (i 1).val = (j 1).val) :
    val_main_v62 (F := Ideal) x0 i = Ideal.fptosi 8 (clipE (Ideal.div (rowZ (xrow x0 (i 0).val (i 1).val) (i 2).val) (scE (val_main_v50 (F := Ideal) x0 j)))) := by
  have hj : idx_main_v56 (idx_main_v57 i) = j := funext fun a => Fin.ext (match a with
    | ⟨0, _⟩ => h0
    | ⟨1, _⟩ => h1)
  rw [← z_val, ← scale_val, ← code_bits, val_main_v62_apply, val_main_v61_apply, val_main_v60_apply, val_main_call3_v4_apply, val_main_call3_v3_apply,
    val_main_cst_21_apply, val_main_call3_v2_apply, val_main_call3_v1_apply, val_main_call3_v0_apply, val_main_cst_20_apply, val_main_v59_apply,
    val_main_v58_apply, val_main_v57_apply, val_main_v56_apply, hj, Ideal.ofBits_def, Ideal.ofBits_def, c_seven, c_neg_seven,
    Ideal.minimumf_def, Ideal.maximumf_def, Ideal.hostUnary_roundeven_def, Ideal.hostDivf_def]
  unfold clipE
  generalize (min _ _ : EReal) = q
  rfl

end Cert.ReferenceIdeal.Read

end
-- ==== Proof.RefMat.lean ====
module

public import proofs.«01_k».proof.Proof.RefQuant
public import proofs.«01_k».proof.Proof.Weights

@[expose] public section

set_option maxRecDepth 2000

noncomputable section

namespace Cert.ReferenceIdeal.Read

open Cert.ReferenceIdeal Cert.ReferenceIdeal.Gen Idealize.ShloMosaic Cert.Math

/-- One output column's bytes. -/
def wbyt (x1 : (⟨S8192x4096, .i8⟩ : BufTy).Contents (Elt Ideal)) (o : ℕ) : ℕ → BitVec 8 := fun c => x1 (fun a => match a with
  | ⟨0, _⟩ => ⟨o % 8192, Nat.mod_lt _ (by decide)⟩
  | ⟨1, _⟩ => ⟨c % 4096, Nat.mod_lt _ (by decide)⟩)

/-- One output column's scales. -/
def wsc (x2 : (⟨S8192x64, .f32⟩ : BufTy).Contents (Elt Ideal)) (o : ℕ) : ℕ → EReal := fun g => x2 (fun a => match a with
  | ⟨0, _⟩ => ⟨o % 8192, Nat.mod_lt _ (by decide)⟩
  | ⟨1, _⟩ => ⟨g % 64, Nat.mod_lt _ (by decide)⟩)

variable (x0 : (⟨S4x1024x8192, .bf16⟩ : BufTy).Contents (Elt Ideal)) (x1 : (⟨S8192x4096, .i8⟩ : BufTy).Contents (Elt Ideal))
  (x2 : (⟨S8192x64, .f32⟩ : BufTy).Contents (Elt Ideal))

/-- The low nibbles. -/
theorem lo_val (i : S8192x4096.Idx) : val_main_v73 (F := Ideal) x1 i = zE (loN (wbyt x1 (i 0).val (i 1).val)).toInt := by
  have h0 : (i 0).val < 8192 := (i 0).isLt
  have h1 : (i 1).val < 4096 := (i 1).isLt
  have e : wbyt x1 (i 0).val (i 1).val = x1 i := congrArg x1 (funext fun a => Fin.ext (match a with
    | ⟨0, _⟩ => Nat.mod_eq_of_lt h0
    | ⟨1, _⟩ => Nat.mod_eq_of_lt h1))
  rw [e]
  simp only [val_main_v73_apply, val_main_v72_apply, val_main_v71_apply, val_main_v70_apply, val_main_c_24_apply, val_main_v69_apply, val_main_v68_apply,
    val_main_v67_apply, val_main_c_23_apply, val_main_v66_apply, val_main_v65_apply, val_main_c_22_apply, val_main_v64_apply]
  generalize x1 i = b
  rfl

/-- The high nibbles. -/
theorem hi_val (i : S8192x4096.Idx) : val_main_v82 (F := Ideal) x1 i = zE (hiN (wbyt x1 (i 0).val (i 1).val)).toInt := by
  have h0 : (i 0).val < 8192 := (i 0).isLt
  have h1 : (i 1).val < 4096 := (i 1).isLt
  have e : wbyt x1 (i 0).val (i 1).val = x1 i := congrArg x1 (funext fun a => Fin.ext (match a with
    | ⟨0, _⟩ => Nat.mod_eq_of_lt h0
    | ⟨1, _⟩ => Nat.mod_eq_of_lt h1))
  rw [e]
  simp only [val_main_v82_apply, val_main_v81_apply, val_main_v80_apply, val_main_v79_apply, val_main_c_27_apply, val_main_v78_apply, val_main_v77_apply,
    val_main_v76_apply, val_main_c_26_apply, val_main_v75_apply, val_main_v74_apply, val_main_c_25_apply, val_main_v64_apply]
  generalize x1 i = b
  rfl

/-- The group scales. -/
theorem sc_val (i : S8192x64.Idx) : val_main_v83 (F := Ideal) x2 i = wsc x2 (i 0).val (i 1).val := by
  have h0 : (i 0).val < 8192 := (i 0).isLt
  have h1 : (i 1).val < 64 := (i 1).isLt
  exact congrArg x2 (funext fun a => Fin.ext (match a with
    | ⟨0, _⟩ => (Nat.mod_eq_of_lt h0).symm
    | ⟨1, _⟩ => (Nat.mod_eq_of_lt h1).symm))

/-- The weights of the first half of the columns. -/
theorem wlo_val (i : S8192x4096.Idx) : val_main_v89 (F := Ideal) x1 x2 i = wE (wbyt x1 (i 0).val) (wsc x2 (i 0).val) (i 1).val := by
  have h0 : (i 0).val < 8192 := (i 0).isLt
  have h1 : (i 1).val < 4096 := (i 1).isLt
  unfold wE
  rw [if_pos h1, val_main_v89_apply, val_main_v88_apply, val_main_v84_apply, val_main_v87_apply, val_main_v86_apply, val_main_v85_apply, lo_val, sc_val, Ideal.mulf_def]
  have e0 : ((i 0).val * 4096 + (i 1).val) / 4096 = (i 0).val := by omega
  have e1 : ((i 0).val * 4096 + (i 1).val) / 128 % 32 = (i 1).val / 128 := by omega
  have e2 : ((i 0).val * 4096 + (i 1).val) % 128 = (i 1).val % 128 := by omega
  have a0 : (idx_main_v84 (idx_main_v89 i) 0).val = (i 0).val := by
    show ((((i 0).val * 4096 + (i 1).val) / 4096 * 32 + ((i 0).val * 4096 + (i 1).val) / 128 % 32) * 128 + ((i 0).val * 4096 + (i 1).val) % 128) / 4096 = _
    rw [e0, e1, e2]; omega
  have a1 : (idx_main_v84 (idx_main_v89 i) 1).val = (i 1).val := by
    show ((((i 0).val * 4096 + (i 1).val) / 4096 * 32 + ((i 0).val * 4096 + (i 1).val) / 128 % 32) * 128 + ((i 0).val * 4096 + (i 1).val) % 128) % 4096 = _
    rw [e0, e1, e2]; omega
  have b0 : (idx_main_v85 (idx_main_v86 (idx_main_v87 (idx_main_v89 i))) 0).val = (i 0).val := e0
  have b1 : (idx_main_v85 (idx_main_v86 (idx_main_v87 (idx_main_v89 i))) 1).val = (i 1).val / 128 := e1
  rw [a0, a1, b0, b1]

/-- The weights of the second half. -/
theorem whi_val (i : S8192x4096.Idx) : val_main_v95 (F := Ideal) x1 x2 i = wE (wbyt x1 (i 0).val) (wsc x2 (i 0).val) (4096 + (i 1).val) := by
  have h0 : (i 0).val < 8192 := (i 0).isLt
  have h1 : (i 1).val < 4096 := (i 1).isLt
  unfold wE
  rw [if_neg (by omega), val_main_v95_apply, val_main_v94_apply, val_main_v90_apply, val_main_v93_apply, val_main_v92_apply, val_main_v91_apply, hi_val, sc_val, Ideal.mulf_def]
  have e0 : ((i 0).val * 4096 + (i 1).val) / 4096 = (i 0).val := by omega
  have e1 : ((i 0).val * 4096 + (i 1).val) / 128 % 32 = (i 1).val / 128 := by omega
  have e2 : ((i 0).val * 4096 + (i 1).val) % 128 = (i 1).val % 128 := by omega
  have a0 : (idx_main_v90 (idx_main_v95 i) 0).val = (i 0).val := by
    show ((((i 0).val * 4096 + (i 1).val) / 4096 * 32 + ((i 0).val * 4096 + (i 1).val) / 128 % 32) * 128 + ((i 0).val * 4096 + (i 1).val) % 128) / 4096 = _
    rw [e0, e1, e2]; omega
  have a1 : (idx_main_v90 (idx_main_v95 i) 1).val = 4096 + (i 1).val - 4096 := by
    show ((((i 0).val * 4096 + (i 1).val) / 4096 * 32 + ((i 0).val * 4096 + (i 1).val) / 128 % 32) * 128 + ((i 0).val * 4096 + (i 1).val) % 128) % 4096 = _
    rw [e0, e1, e2]; omega
  have b0 : (idx_main_v91 (idx_main_v92 (idx_main_v93 (idx_main_v95 i))) 0).val = (i 0).val := e0
  have b1 : (idx_main_v91 (idx_main_v92 (idx_main_v93 (idx_main_v95 i))) 1).val = (4096 + (i 1).val) / 128 := by
    show 32 + ((i 0).val * 4096 + (i 1).val) / 128 % 32 = _
    rw [e1]; omega
  rw [a0, a1, b0, b1]

/-- One token's codes, as values. -/
def crow (b s : ℕ) : ℕ → EReal := fun k => zE (val_main_v62 (F := Ideal) x0 (i3 b s k) : BitVec 8).toInt

/-- The codes as values. -/
theorem cv_val (i : S4x1024x8192.Idx) : val_main_v97 (F := Ideal) x0 i = crow x0 (i 0).val (i 1).val (i 2).val := by
  have h0 : (i 0).val < 4 := (i 0).isLt
  have h1 : (i 1).val < 1024 := (i 1).isLt
  have h2 : (i 2).val < 8192 := (i 2).isLt
  have e : i3 (i 0).val (i 1).val (i 2).val = i := funext fun a => Fin.ext (match a with
    | ⟨0, _⟩ => Nat.mod_eq_of_lt h0
    | ⟨1, _⟩ => Nat.mod_eq_of_lt h1
    | ⟨2, _⟩ => Nat.mod_eq_of_lt h2)
  unfold crow
  rw [e, val_main_v97_apply, val_main_v96_apply, val_main_v63_0_apply]
  generalize val_main_v62 (F := Ideal) x0 i = b
  exact congrArg zE (sext_int b)

/-- The result. -/
theorem out_val (i : S4x1024x8192.Idx) (j : S4x1024.Idx) (h0 : (i 0).val = (j 0).val) (h1 : (i 1).val = (j 1).val) :
    val_main_v106 (F := Ideal) x0 x1 x2 i
      = outE (crow x0 (i 0).val (i 1).val) (wE (wbyt x1 (i 2).val) (wsc x2 (i 2).val)) (scE (val_main_v50 (F := Ideal) x0 j)) := by
  have hj : idx_main_v103 (idx_main_v104 i) = j := funext fun a => Fin.ext (match a with
    | ⟨0, _⟩ => h0
    | ⟨1, _⟩ => h1)
  have hA : ∀ k : Fin 4096, val_main_v98 (F := Ideal) x0 (lidx_main_v99 i k) * val_main_v89 (F := Ideal) x1 x2 (ridx_main_v99 i k)
      = crow x0 (i 0).val (i 1).val k.val * wE (wbyt x1 (i 2).val) (wsc x2 (i 2).val) k.val := fun k => by
    rw [val_main_v98_apply, cv_val, wlo_val]
  have hB : ∀ k : Fin 4096, val_main_v100 (F := Ideal) x0 (lidx_main_v101 i k) * val_main_v95 (F := Ideal) x1 x2 (ridx_main_v101 i k)
      = crow x0 (i 0).val (i 1).val (4096 + k.val) * wE (wbyt x1 (i 2).val) (wsc x2 (i 2).val) (4096 + k.val) := fun k => by
    rw [val_main_v100_apply, cv_val, whi_val]
  rw [outE_split, ← scale_val, val_main_v106_apply, val_main_v105_apply, val_main_v104_apply, val_main_v103_apply, val_main_v63_1_apply, hj, val_main_v102_apply,
    val_main_v99_apply, val_main_v101_apply, Ideal.truncf_def, Ideal.mulf_def, Ideal.addf_def, Finset.sum_congr rfl fun k _ => hA k, Finset.sum_congr rfl fun k _ => hB k]

end Cert.ReferenceIdeal.Read

end
-- ==== Proof.Results.lean ====
module

public import proofs.«01_k».proof.Proof.Arrays0
public import proofs.«01_k».proof.Proof.Arrays1
public import proofs.«01_k».proof.Proof.RefMat

@[expose] public section

set_option maxRecDepth 2000

noncomputable section

namespace Cert.Results

open Cert.KernelIdeal Cert.KernelIdeal.Gen Cert.KernelIdeal.A0 Cert.KernelIdeal.A1
open Idealize.ShloMosaic Idealize.ShloMosaic.TcCoe Cert.Math
open Cert.ReferenceIdeal.Read (i3 xrow max_val scale_val code_val out_val crow wbyt wsc val_main_v50 val_main_v55 val_main_v62 val_main_v63_0 val_main_v63_1 val_main_v106)

/-! The kernel's three arrays, reshaped, are the reference's results. -/

variable (x0 : Vec Ideal S4x1024x8192 .bf16) (x1 : Vec Ideal S8192x4096 .i8) (x2 : Vec Ideal S8192x64 .f32)

/-- The input with its tokens in one row after another. -/
def X2 : Vec Ideal S4096x8192 .bf16 := shapeCast S4096x8192 x0 shapeCasts_S4x1024x8192_S4096x8192

/-- A token's batch and its position. -/
def jt (t : ℕ) : S4x1024.Idx := fun a => match a with
  | ⟨0, _⟩ => ⟨t / 1024 % 4, Nat.mod_lt _ (by decide)⟩
  | ⟨1, _⟩ => ⟨t % 1024, Nat.mod_lt _ (by decide)⟩

/-- A token's greatest absolute value. -/
def MT (t : ℕ) : EReal := val_main_v50 (F := Ideal) x0 (jt t)

/-- A row of the flattened input is a token's row. -/
theorem row_eq (t : ℕ) (ht : t < 4096) : rowA (X2 x0) t = xrow x0 (t / 1024) (t % 1024) := by
  funext k
  unfold rowA X2 xrow
  refine shapeCast_apply x0 _ _ _ ?_
  rewrite [Shape.rowMajor_val_three, Shape.rowMajor_val_two]
  show (t / 1024 % 4 * 1024 + t % 1024 % 1024) * 8192 + k % 8192 = t % 4096 * 8192 + k % 8192
  omega

/-- A token's row does not depend on how far its numbers run over. -/
theorem xrow_mod (b s : ℕ) : xrow x0 (b % 4) (s % 1024) = xrow x0 b s := by
  funext k
  refine congrArg x0 (funext fun a => Fin.ext ?_)
  match a with
  | ⟨0, _⟩ => exact Nat.mod_mod _ _
  | ⟨1, _⟩ => exact Nat.mod_mod _ _
  | ⟨2, _⟩ => rfl

/-- The reference's maximum is the greatest absolute value of the flattened row. -/
theorem mx_eq (t : ℕ) (ht : t < 4096) : IsMx (MT x0 t) (rowZ (rowA (X2 x0) t)) := by
  have h : IsMx (MT x0 t) (rowZ (xrow x0 (t / 1024 % 4) (t % 1024))) := max_val x0 (jt t)
  rw [row_eq x0 t ht]
  rwa [Nat.mod_eq_of_lt (by omega)] at h

/-- A token's maximum by batch and position. -/
theorem MT_at (b s : ℕ) (hb : b < 4) (hs : s < 1024) (j : S4x1024.Idx) (h0 : (j 0).val = b) (h1 : (j 1).val = s) :
    MT x0 (b * 1024 + s) = val_main_v50 (F := Ideal) x0 j := by
  refine congrArg (val_main_v50 (F := Ideal) x0) (funext fun a => Fin.ext ?_)
  match a with
  | ⟨0, _⟩ => exact (show (b * 1024 + s) / 1024 % 4 = _ by omega).trans h0.symm
  | ⟨1, _⟩ => exact (show (b * 1024 + s) % 1024 = _ by omega).trans h1.symm

/-- The codes' array at a token. -/
theorem codes_at (p : S4096x8192.Idx) (b s : ℕ) (hb : b < 4) (hs : s < 1024) (hp : (p 0).val = b * 1024 + s) :
    GC (X2 x0) (MT x0) p = val_main_v62 (F := Ideal) x0 (i3 b s (p 1).val) := by
  have h1 : (p 1).val < 8192 := (p 1).isLt
  have hc := code_val x0 (i3 b s (p 1).val) (jt (b * 1024 + s)) (show b % 4 = (b * 1024 + s) / 1024 % 4 by omega) (show s % 1024 = (b * 1024 + s) % 1024 by omega)
  have e0 : (i3 b s (p 1).val 0).val = b % 4 := rfl
  have e1 : (i3 b s (p 1).val 1).val = s % 1024 := rfl
  have e2 : (i3 b s (p 1).val 2).val = (p 1).val := Nat.mod_eq_of_lt h1
  rw [e0, e1, e2, xrow_mod] at hc
  rw [hc]
  unfold GC
  rw [hp, row_eq x0 _ (by omega), show (b * 1024 + s) / 1024 = b by omega, show (b * 1024 + s) % 1024 = s by omega]
  rfl

/-- A token's row in the arrays. -/
def p2 (i : S4x1024x8192.Idx) : S4096x8192.Idx := fun a => match a with
  | 0 => ⟨(i 0).val * 1024 + (i 1).val, by have h0 : (i 0).val < 4 := (i 0).isLt; have h1 : (i 1).val < 1024 := (i 1).isLt; exact (by omega : (i 0).val * 1024 + (i 1).val < 4096)⟩
  | 1 => ⟨(i 2).val, (i 2).isLt⟩

/-- The reshape reads a token's row. -/
theorem flat {ty : EltTy} (G : Vec Ideal S4096x8192 ty) (i : S4x1024x8192.Idx) :
    shapeCast S4x1024x8192 G shapeCasts_S4096x8192_S4x1024x8192 i = G (p2 i) := by
  refine shapeCast_apply G _ _ _ ?_
  rewrite [Shape.rowMajor_val_three, Shape.rowMajor_val_two]
  rfl

/-- The codes' array, reshaped, is the reference's codes. -/
theorem codes_eq : shapeCast S4x1024x8192 (GC (X2 x0) (MT x0)) shapeCasts_S4096x8192_S4x1024x8192 = val_main_v63_0 (F := Ideal) x0 := by
  funext i
  have h0 : (i 0).val < 4 := (i 0).isLt
  have h1 : (i 1).val < 1024 := (i 1).isLt
  have h2 : (i 2).val < 8192 := (i 2).isLt
  refine (flat _ i).trans ((codes_at x0 (p2 i) (i 0).val (i 1).val h0 h1 rfl).trans ?_)
  refine congrArg (val_main_v62 (F := Ideal) x0) (funext fun a => Fin.ext ?_)
  match a with
  | ⟨0, _⟩ => exact Nat.mod_eq_of_lt h0
  | ⟨1, _⟩ => exact Nat.mod_eq_of_lt h1
  | ⟨2, _⟩ => exact Nat.mod_eq_of_lt h2

/-- A token's row in the scales' array. -/
def p1 (j : S4x1024.Idx) : S4096x1.Idx := fun a => match a with
  | 0 => ⟨(j 0).val * 1024 + (j 1).val, by have h0 : (j 0).val < 4 := (j 0).isLt; have h1 : (j 1).val < 1024 := (j 1).isLt; exact (by omega : (j 0).val * 1024 + (j 1).val < 4096)⟩
  | 1 => ⟨0, by decide⟩

/-- The scales' array at a token. -/
theorem GS_at (M : ℕ → EReal) (j : S4x1024.Idx) (n : ℕ) (hn : (j 0).val * 1024 + (j 1).val = n) : GS M (p1 j) = scE (M n) := by
  subst hn
  rfl

/-- A row's scale, out of the scales' array. -/
theorem ars_eq (M : ℕ → EReal) (t : ℕ) (ht : t < 4096) : ars (GS M) t = scE (M t) := by
  have h : t % 4096 = t := Nat.mod_eq_of_lt ht
  unfold ars GS
  dsimp only
  rw [h]

/-- The scales' array, reshaped, is the reference's scales. -/
theorem scales_eq : shapeCast S4x1024 (GS (MT x0)) shapeCasts_S4096x1_S4x1024 = val_main_v63_1 (F := Ideal) x0 := by
  funext j
  have h0 : (j 0).val < 4 := (j 0).isLt
  have h1 : (j 1).val < 1024 := (j 1).isLt
  refine (shapeCast_apply (GS (MT x0)) _ j (p1 j) ?_).trans ?_
  · rewrite [Shape.rowMajor_val_two, Shape.rowMajor_val_two]
    show ((j 0).val * 1024 + (j 1).val) * 1 + 0 = (j 0).val * 1024 + (j 1).val
    omega
  · rw [GS_at (MT x0) j _ rfl, Cert.ReferenceIdeal.Read.val_main_v63_1_apply, scale_val, MT_at x0 _ _ h0 h1 j rfl rfl]

/-- A row of the codes as values is the reference's. -/
theorem code_row_eq (b s : ℕ) (hb : b < 4) (hs : s < 1024) : acode (GV (X2 x0) (MT x0)) (b * 1024 + s) = crow x0 b s := by
  funext k
  have hc := codes_at x0 ((fun a => match a with
    | 0 => ⟨(b * 1024 + s) % 4096, Nat.mod_lt _ (by decide)⟩
    | 1 => ⟨k % 8192, Nat.mod_lt _ (by decide)⟩) : S4096x8192.Idx) b s hb hs (Nat.mod_eq_of_lt (by omega))
  refine (congrArg (fun n : BitVec 8 => zE n.toInt) hc).trans ?_
  refine congrArg (fun q : S4x1024x8192.Idx => zE (val_main_v62 (F := Ideal) x0 q : BitVec 8).toInt) (funext fun a => Fin.ext ?_)
  match a with
  | ⟨0, _⟩ => rfl
  | ⟨1, _⟩ => rfl
  | ⟨2, _⟩ => exact Nat.mod_mod _ _

/-- The two sides read the same bytes. -/
theorem byt_eq (o : ℕ) : abyt x1 o = wbyt x1 o := funext fun k => congrArg x1 (funext fun a => match a with
  | ⟨0, _⟩ => rfl
  | ⟨1, _⟩ => rfl)

/-- The two sides read the same group scales. -/
theorem sc_eq (o : ℕ) : asc x2 o = wsc x2 o := funext fun g => congrArg x2 (funext fun a => match a with
  | ⟨0, _⟩ => rfl
  | ⟨1, _⟩ => rfl)

/-- A result's token. -/
def j2 (i : S4x1024x8192.Idx) : S4x1024.Idx := fun a => match a with
  | ⟨0, _⟩ => ⟨(i 0).val, (i 0).isLt⟩
  | ⟨1, _⟩ => ⟨(i 1).val, (i 1).isLt⟩

/-- The result's array, reshaped, is the reference's result. -/
theorem out_eq : shapeCast S4x1024x8192 (GO (GV (X2 x0) (MT x0)) x1 x2 (GS (MT x0))) shapeCasts_S4096x8192_S4x1024x8192 = val_main_v106 (F := Ideal) x0 x1 x2 := by
  funext i
  have h0 : (i 0).val < 4 := (i 0).isLt
  have h1 : (i 1).val < 1024 := (i 1).isLt
  have hv := out_val x0 x1 x2 i (j2 i) rfl rfl
  refine (flat _ i).trans (Eq.trans ?_ hv.symm)
  have hs : ars (GS (MT x0)) ((i 0).val * 1024 + (i 1).val) = scE (MT x0 ((i 0).val * 1024 + (i 1).val)) :=
    ars_eq (MT x0) _ (by omega)
  have hg : GO (GV (X2 x0) (MT x0)) x1 x2 (GS (MT x0)) (p2 i)
      = outE (acode (GV (X2 x0) (MT x0)) ((i 0).val * 1024 + (i 1).val)) (wE (abyt x1 (i 2).val) (asc x2 (i 2).val)) (ars (GS (MT x0)) ((i 0).val * 1024 + (i 1).val)) := rfl
  rw [hg, hs, code_row_eq x0 _ _ h0 h1, byt_eq, sc_eq, MT_at x0 _ _ h0 h1 (j2 i) rfl rfl]

end Cert.Results

end
-- ==== Proof.Algebraic.lean ====
module

public import proofs.«01_k».proof.Defs
public import proofs.«01_k».proof.Proof.Results
public import proofs.«01_k».proof.Proof.Gen.ReferenceIdeal.Run
public import Idealize.ShloMosaic.Adequacy
public import Idealize.ShloMosaic.Init

@[expose] public section

set_option maxRecDepth 2000

noncomputable section

namespace Cert.Results

open Cert.KernelIdeal Cert.KernelIdeal.Gen Cert.KernelIdeal.A0 Cert.KernelIdeal.A1
open Idealize.ShloMosaic Idealize.ShloMosaic.TcCoe Idealize.SL.Sem Cert.Math
open Cert.ReferenceIdeal.Read (val_main_v63_0 val_main_v63_1 val_main_v106)

/-! What the kernel's three results hold at its end. -/

variable (m : (ℓ : Loc nD τ sig) → Buf (Elt Ideal) ℓ) (ρ : Dev nD → PrngReg) (c : Dev nD)

/-- The arguments. -/
def a0 : Vec Ideal S4x1024x8192 .bf16 := m ((c.tc : Thread nD τ).loc main_arg0)
def a1 : Vec Ideal S8192x4096 .i8 := m ((c.tc : Thread nD τ).loc main_arg1)
def a2 : Vec Ideal S8192x64 .f32 := m ((c.tc : Thread nD τ).loc main_arg2)

/-- The first region finds the flattened input. -/
theorem entry_in : Fr.V1 m ρ c main_v0 = X2 (a0 m c) := by
  show StableHlo.after hostOps0 (Fr.W0 m ρ c) main_v0 = _
  simp only [hostOps0]
  after_results_simp
  rfl

/-- The first region leaves the codes. -/
theorem at_codes : Fr.W2 m ρ c (Proc.devRef .tc main_v1_0) = GC (X2 (a0 m c)) (MT (a0 m c)) :=
  (Fr.W2_arr m ρ c 1).trans (arr_codes (Fr.V1 m ρ) c (X2 (a0 m c)) (entry_in m ρ c) (MT (a0 m c)) (mx_eq (a0 m c)))

/-- The first region leaves the codes as values. -/
theorem at_vals : Fr.W2 m ρ c (Proc.devRef .tc main_v1_1) = GV (X2 (a0 m c)) (MT (a0 m c)) :=
  (Fr.W2_arr m ρ c 2).trans (arr_vals (Fr.V1 m ρ) c (X2 (a0 m c)) (entry_in m ρ c) (MT (a0 m c)) (mx_eq (a0 m c)))

/-- The first region leaves the scales. -/
theorem at_scales : Fr.W2 m ρ c (Proc.devRef .tc main_v1_2) = GS (MT (a0 m c)) :=
  (Fr.W2_arr m ρ c 3).trans (arr_scales (Fr.V1 m ρ) c (X2 (a0 m c)) (entry_in m ρ c) (MT (a0 m c)) (mx_eq (a0 m c)))

/-- The second region leaves the result. -/
theorem at_out : Fr.W3 m ρ c (Proc.devRef .tc main_v2) = GO (GV (X2 (a0 m c)) (MT (a0 m c))) (a1 m c) (a2 m c) (GS (MT (a0 m c))) :=
  (Fr.W3_arr m ρ c 4).trans (arr_out (Fr.V2 m ρ) c _ (at_vals m ρ c) _ (Fr.W2_args m ρ c main_arg1 (by decide)) _ (Fr.W2_args m ρ c main_arg2 (by decide))
    _ (at_scales m ρ c))

/-- The second region keeps the codes. -/
theorem keep_codes : Fr.W3 m ρ c (Proc.devRef .tc main_v1_0) = GC (X2 (a0 m c)) (MT (a0 m c)) :=
  (Fr.W3_of m ρ c main_v1_0 (by decide +kernel)).trans (at_codes m ρ c)

/-- The second region keeps the scales. -/
theorem keep_scales : Fr.W3 m ρ c (Proc.devRef .tc main_v1_2) = GS (MT (a0 m c)) :=
  (Fr.W3_of m ρ c main_v1_2 (by decide +kernel)).trans (at_scales m ρ c)

/-- The first result at the end. -/
theorem end_out : Fr.W4 m ρ c (Proc.devRef .tc main_v3) = val_main_v106 (F := Ideal) (a0 m c) (a1 m c) (a2 m c) := by
  rw [← out_eq, ← at_out m ρ c]
  show StableHlo.after hostOps2 (Fr.W3 m ρ c) main_v3 = _
  generalize Fr.W3 m ρ c = W
  simp only [hostOps2]
  after_results_simp
  rfl

/-- The second result at the end. -/
theorem end_codes : Fr.W4 m ρ c (Proc.devRef .tc main_v4) = val_main_v63_0 (F := Ideal) (a0 m c) := by
  rw [← codes_eq, ← keep_codes m ρ c]
  show StableHlo.after hostOps2 (Fr.W3 m ρ c) main_v4 = _
  generalize Fr.W3 m ρ c = W
  simp only [hostOps2]
  after_results_simp
  rfl

/-- The third result at the end. -/
theorem end_scales : Fr.W4 m ρ c (Proc.devRef .tc main_v5) = val_main_v63_1 (F := Ideal) (a0 m c) := by
  rw [← scales_eq, ← keep_scales m ρ c]
  show StableHlo.after hostOps2 (Fr.W3 m ρ c) main_v5 = _
  generalize Fr.W3 m ρ c = W
  simp only [hostOps2]
  after_results_simp
  rfl

/-- The kernel's run ends with the reference's values. -/
theorem run_kernel : θ_run (defs (F := Ideal)) (onTc (τ := τ) (main (F := Ideal))) ⟨m, fun _ => 0, ρ⟩ (fun r => ∀ c : Dev nD,
    r.2.mem ((c.tc : Thread nD τ).loc main_v3) = val_main_v106 (F := Ideal) (a0 m c) (a1 m c) (a2 m c)
    ∧ r.2.mem ((c.tc : Thread nD τ).loc main_v4) = val_main_v63_0 (F := Ideal) (a0 m c)
    ∧ r.2.mem ((c.tc : Thread nD τ).loc main_v5) = val_main_v63_1 (F := Ideal) (a0 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨(h.1 c _ (Fr.mem_uc main_v3 (by decide))).trans (end_out m ρ c), (h.1 c _ (Fr.mem_uc main_v4 (by decide))).trans (end_codes m ρ c),
      (h.1 c _ (Fr.mem_uc main_v5 (by decide))).trans (end_scales m ρ c), (h.1 c _ (Fr.mem_uc main_arg0 (by decide))).trans (Fr.W4_main_arg0 m ρ c),
      (h.1 c _ (Fr.mem_uc main_arg1 (by decide))).trans (Fr.W4_main_arg1 m ρ c), (h.1 c _ (Fr.mem_uc main_arg2 (by decide))).trans (Fr.W4_main_arg2 m ρ c)⟩)
    (Fr.run m ρ)

/-- The kernel and the reference end with the same values. -/
theorem algebraic : @Cert.algebraic_KernelIdeal_ReferenceIdeal Cert.KernelIdeal.Gen.facts Cert.ReferenceIdeal.Gen.facts := by
  intro m g m' g' _ h
  refine ⟨fun c => val_main_v106 (F := Ideal) (a0 m c) (a1 m c) (a2 m c), fun c => val_main_v63_0 (F := Ideal) (a0 m c),
    fun c => val_main_v63_1 (F := Ideal) (a0 m c), run_kernel m g, ?_⟩
  refine (θ_run Cert.ReferenceIdeal.defs _ _).mono (fun r hr c => ?_) (Cert.ReferenceIdeal.Value.run m' g')
  obtain ⟨r0, r1, r2, k0, k1, k2⟩ := hr c
  obtain ⟨e0, e1, e2⟩ := h c
  refine ⟨r0.trans ?_, r1.trans ?_, r2.trans ?_, k0, k1, k2⟩
  · rw [Cert.ReferenceIdeal.Read.val_main_v106_eq, e0, e1, e2]; rfl
  · rw [Cert.ReferenceIdeal.Read.val_main_v63_0_eq, e0]; rfl
  · rw [Cert.ReferenceIdeal.Read.val_main_v63_1_eq, e0]; rfl

end Cert.Results

end
-- ==== Proof.lean ====
module

public import proofs.«01_k».proof.Defs
public import proofs.«01_k».proof.Proof.Gen.Kernel
public import proofs.«01_k».proof.Proof.FrameK
public import proofs.«01_k».proof.Proof.Gen.KernelIdeal
public import proofs.«01_k».proof.Proof.FrameKI
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the kernel, of its idealization and of the reference, the idealization's rewrites (there are none), and the equality of all
    three results of the kernel with the reference's. -/
theorem claim : Cert.Claim :=
  ⟨Cert.Kernel.Gen.facts, Cert.KernelIdeal.Gen.facts, Cert.ReferenceIdeal.Gen.facts,
    fun m ρ _ => Cert.Kernel.Fr.frame m ρ, fun m ρ _ => Cert.KernelIdeal.Fr.frame m ρ, Cert.ReferenceIdeal.Value.frame, trivial,
    Cert.Results.algebraic⟩

end Cert.Proof

end
